-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x102 : Shape := ⟨2, ![16384, 102]⟩
abbrev S16384x23 : Shape := ⟨2, ![16384, 23]⟩
abbrev S16384 : Shape := ⟨1, ![16384]⟩
abbrev S100000x64 : Shape := ⟨2, ![100000, 64]⟩
abbrev S64x64 : Shape := ⟨2, ![64, 64]⟩
abbrev S64 : Shape := ⟨1, ![64]⟩
abbrev S64x189 : Shape := ⟨2, ![64, 189]⟩
abbrev S2x64 : Shape := ⟨2, ![2, 64]⟩
abbrev S2 : Shape := ⟨1, ![2]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x102 .f32) (main_arg1 : FVec F S16384x23 .f32) (main_arg2 : IVec S16384 32) (main_arg3 : FVec F S100000x64 .f32) (main_arg4 : FVec F S64x64 .f32) (main_arg5 : FVec F S64 .f32) (main_arg6 : FVec F S64x189 .f32) (main_arg7 : FVec F S64 .f32) (main_arg8 : FVec F S2x64 .f32) (main_arg9 : FVec F S2 .f32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 100000#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x102 : Shape := ⟨2, ![16384, 102]⟩
abbrev S16384x23 : Shape := ⟨2, ![16384, 23]⟩
abbrev S16384 : Shape := ⟨1, ![16384]⟩
abbrev S100000x64 : Shape := ⟨2, ![100000, 64]⟩
abbrev S64x64 : Shape := ⟨2, ![64, 64]⟩
abbrev S64 : Shape := ⟨1, ![64]⟩
abbrev S64x189 : Shape := ⟨2, ![64, 189]⟩
abbrev S2x64 : Shape := ⟨2, ![2, 64]⟩
abbrev S2 : Shape := ⟨1, ![2]⟩
abbrev S50000x128 : Shape := ⟨2, ![50000, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16 : Shape := ⟨1, ![16]⟩
abbrev S128x64 : Shape := ⟨2, ![128, 64]⟩
abbrev S64x102 : Shape := ⟨2, ![64, 102]⟩
abbrev S102x64 : Shape := ⟨2, ![102, 64]⟩
abbrev S64x23 : Shape := ⟨2, ![64, 23]⟩
abbrev S23x64 : Shape := ⟨2, ![23, 64]⟩
abbrev S64x2 : Shape := ⟨2, ![64, 2]⟩
abbrev S16384x1 : Shape := ⟨2, ![16384, 1]⟩
abbrev S1x64 : Shape := ⟨2, ![1, 64]⟩
abbrev S1x2 : Shape := ⟨2, ![1, 2]⟩
abbrev S16384x2 : Shape := ⟨2, ![16384, 2]⟩
abbrev S16384x125 : Shape := ⟨2, ![16384, 125]⟩
abbrev S16384x64 : Shape := ⟨2, ![16384, 64]⟩
abbrev S2048x102 : Shape := ⟨2, ![2048, 102]⟩
abbrev S2048x23 : Shape := ⟨2, ![2048, 23]⟩
abbrev S2048x128 : Shape := ⟨2, ![2048, 128]⟩
abbrev S2048x1 : Shape := ⟨2, ![2048, 1]⟩
abbrev S2048x2 : Shape := ⟨2, ![2048, 2]⟩
abbrev S2048x125 : Shape := ⟨2, ![2048, 125]⟩
abbrev S2048x64 : Shape := ⟨2, ![2048, 64]⟩

abbrev nBuf : Table → Nat
  | .hbm => 29
  | .local .tc .vmem => 22
  | .local .scVector .vmem => 2
  | _ => 0

abbrev bufTy : (tb : Table) → Fin (nBuf tb) → BufTy
  | .hbm, ⟨0, _⟩ => ⟨S16384x102, .f32⟩
  | .hbm, ⟨1, _⟩ => ⟨S16384x23, .f32⟩
  | .hbm, ⟨2, _⟩ => ⟨S16384, .i32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x189, .f32⟩
  | .hbm, ⟨7, _⟩ => ⟨S64, .f32⟩
  | .hbm, ⟨8, _⟩ => ⟨S2x64, .f32⟩
  | .hbm, ⟨9, _⟩ => ⟨S2, .f32⟩
  | .hbm, ⟨10, _⟩ => ⟨S50000x128, .f32⟩
  | .hbm, ⟨11, _⟩ => ⟨S16384x128, .f32⟩
  | .hbm, ⟨12, _⟩ => ⟨S64x64, .f32⟩
  | .hbm, ⟨13, _⟩ => ⟨S64x64, .f32⟩
  | .hbm, ⟨14, _⟩ => ⟨S128x64, .f32⟩
  | .hbm, ⟨15, _⟩ => ⟨S64x102, .f32⟩
  | .hbm, ⟨16, _⟩ => ⟨S102x64, .f32⟩
  | .hbm, ⟨17, _⟩ => ⟨S64x23, .f32⟩
  | .hbm, ⟨18, _⟩ => ⟨S23x64, .f32⟩
  | .hbm, ⟨19, _⟩ => ⟨S64x64, .f32⟩
  | .hbm, ⟨20, _⟩ => ⟨S64x64, .f32⟩
  | .hbm, ⟨21, _⟩ => ⟨S64x2, .f32⟩
  | .hbm, ⟨22, _⟩ => ⟨S16384x1, .i32⟩
  | .hbm, ⟨23, _⟩ => ⟨S1x64, .f32⟩
  | .hbm, ⟨24, _⟩ => ⟨S1x64, .f32⟩
  | .hbm, ⟨25, _⟩ => ⟨S1x2, .f32⟩
  | .hbm, ⟨26, _⟩ => ⟨S16384x2, .f32⟩
  | .hbm, ⟨27, _⟩ => ⟨S16384x125, .f32⟩
  | .hbm, ⟨28, _⟩ => ⟨S16384x64, .f32⟩
  | .local .tc .vmem, ⟨0, _⟩ => ⟨S2048x102, .f32⟩
  | .local .tc .vmem, ⟨1, _⟩ => ⟨S2048x102, .f32⟩
  | .local .tc .vmem, ⟨2, _⟩ => ⟨S2048x23, .f32⟩
  | .local .tc .vmem, ⟨3, _⟩ => ⟨S2048x23, .f32⟩
  | .local .tc .vmem, ⟨4, _⟩ => ⟨S2048x128, .f32⟩
  | .local .tc .vmem, ⟨5, _⟩ => ⟨S2048x128, .f32⟩
  | .local .tc .vmem, ⟨6, _⟩ => ⟨S2048x1, .i32⟩
  | .local .tc .vmem, ⟨7, _⟩ => ⟨S2048x1, .i32⟩
  | .local .tc .vmem, ⟨8, _⟩ => ⟨S128x64, .f32⟩
  | .local .tc .vmem, ⟨9, _⟩ => ⟨S1x64, .f32⟩
  | .local .tc .vmem, ⟨10, _⟩ => ⟨S102x64, .f32⟩
  | .local .tc .vmem, ⟨11, _⟩ => ⟨S23x64, .f32⟩
  | .local .tc .vmem, ⟨12, _⟩ => ⟨S64x64, .f32⟩
  | .local .tc .vmem, ⟨13, _⟩ => ⟨S1x64, .f32⟩
  | .local .tc .vmem, ⟨14, _⟩ => ⟨S64x2, .f32⟩
  | .local .tc .vmem, ⟨15, _⟩ => ⟨S1x2, .f32⟩
  | .local .tc .vmem, ⟨16, _⟩ => ⟨S2048x2, .f32⟩
  | .local .tc .vmem, ⟨17, _⟩ => ⟨S2048x2, .f32⟩
  | .local .tc .vmem, ⟨18, _⟩ => ⟨S2048x125, .f32⟩
  | .local .tc .vmem, ⟨19, _⟩ => ⟨S2048x125, .f32⟩
  | .local .tc .vmem, ⟨20, _⟩ => ⟨S2048x64, .f32⟩
  | .local .tc .vmem, ⟨21, _⟩ => ⟨S2048x64, .f32⟩
  | .local .scVector .vmem, ⟨0, _⟩ => ⟨S512, .i32⟩
  | .local .scVector .vmem, ⟨1, _⟩ => ⟨S512x128, .f32⟩
  | _, _ => ⟨S16384x102, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v0_scv : Ref sig .scVector := ⟨.hbm, 10, rfl⟩
abbrev main_arg2_scv : Ref sig .scVector := ⟨.hbm, 2, rfl⟩
abbrev main_v1_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg12_1 : Ref sig .tc := ⟨.vmem, 17, rfl⟩
abbrev cc1_stg13_0 : Ref sig .tc := ⟨.vmem, 18, rfl⟩
abbrev cc1_stg13_1 : Ref sig .tc := ⟨.vmem, 19, rfl⟩
abbrev cc1_stg14_0 : Ref sig .tc := ⟨.vmem, 20, rfl⟩
abbrev cc1_stg14_1 : Ref sig .tc := ⟨.vmem, 21, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem12_1 : DmaSem sig := 20
abbrev cc1_sem13_0 : DmaSem sig := 21
abbrev cc1_sem13_1 : DmaSem sig := 22
abbrev cc1_sem14_0 : DmaSem sig := 23
abbrev cc1_sem14_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_66_r1 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x102 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x23 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S102x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S23x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x2 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2048x2 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2048x125 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S2048x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x102 : Shape := ⟨2, ![16384, 102]⟩
abbrev S16384x23 : Shape := ⟨2, ![16384, 23]⟩
abbrev S16384 : Shape := ⟨1, ![16384]⟩
abbrev S100000x64 : Shape := ⟨2, ![100000, 64]⟩
abbrev S64x64 : Shape := ⟨2, ![64, 64]⟩
abbrev S64 : Shape := ⟨1, ![64]⟩
abbrev S64x189 : Shape := ⟨2, ![64, 189]⟩
abbrev S2x64 : Shape := ⟨2, ![2, 64]⟩
abbrev S2 : Shape := ⟨1, ![2]⟩
abbrev S16384x125 : Shape := ⟨2, ![16384, 125]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S1x64 : Shape := ⟨2, ![1, 64]⟩
abbrev S16384x189 : Shape := ⟨2, ![16384, 189]⟩
abbrev S189x64 : Shape := ⟨2, ![189, 64]⟩
abbrev S64x2 : Shape := ⟨2, ![64, 2]⟩
abbrev S16384x2 : Shape := ⟨2, ![16384, 2]⟩
abbrev S1x2 : Shape := ⟨2, ![1, 2]⟩

abbrev nBuf : Space → Nat
  | .hbm => 66
  | .vmem => 0
  | .smem => 0
  | _ => 0

abbrev bufTy : (tb : Table) → Fin (tcTables nBuf tb) → BufTy
  | .hbm, ⟨0, _⟩ => ⟨S16384x102, .f32⟩
  | .hbm, ⟨1, _⟩ => ⟨S16384x23, .f32⟩
  | .hbm, ⟨2, _⟩ => ⟨S16384, .i32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x189, .f32⟩
  | .hbm, ⟨7, _⟩ => ⟨S64, .f32⟩
  | .hbm, ⟨8, _⟩ => ⟨S2x64, .f32⟩
  | .hbm, ⟨9, _⟩ => ⟨S2, .f32⟩
  | .hbm, ⟨10, _⟩ => ⟨S16384x125, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S1x1, .i32⟩
  | .hbm, ⟨24, _⟩ => ⟨S16384x1, .i32⟩
  | .hbm, ⟨25, _⟩ => ⟨S16384x1, .i1⟩
  | .hbm, ⟨26, _⟩ => ⟨S16384x1, .i1⟩
  | .hbm, ⟨27, _⟩ => ⟨S_, .i1⟩
  | .hbm, ⟨28, _⟩ => ⟨S16384, .i1⟩
  | .hbm, ⟨29, _⟩ => ⟨S16384x64, .f32⟩
  | .hbm, ⟨30, _⟩ => ⟨S16384x64, .i1⟩
  | .hbm, ⟨31, _⟩ => ⟨S_, .f32⟩
  | .hbm, ⟨32, _⟩ => ⟨S16384x64, .f32⟩
  | .hbm, ⟨33, _⟩ => ⟨S16384x64, .f32⟩
  | .hbm, ⟨34, _⟩ => ⟨S64x64, .f32⟩
  | .hbm, ⟨35, _⟩ => ⟨S16384x64, .f32⟩
  | .hbm, ⟨36, _⟩ => ⟨S1x64, .f32⟩
  | .hbm, ⟨37, _⟩ => ⟨S16384x64, .f32⟩
  | .hbm, ⟨38, _⟩ => ⟨S16384x64, .f32⟩
  | .hbm, ⟨39, _⟩ => ⟨S_, .f32⟩
  | .hbm, ⟨40, _⟩ => ⟨S_, .f32⟩
  | .hbm, ⟨41, _⟩ => ⟨S16384x64, .f32⟩
  | .hbm, ⟨42, _⟩ => ⟨S16384x64, .i1⟩
  | .hbm, ⟨43, _⟩ => ⟨S_, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S16384x189, .f32⟩
  | .hbm, ⟨48, _⟩ => ⟨S189x64, .f32⟩
  | .hbm, ⟨49, _⟩ => ⟨S16384x64, .f32⟩
  | .hbm, ⟨50, _⟩ => ⟨S1x64, .f32⟩
  | .hbm, ⟨51, _⟩ => ⟨S16384x64, .f32⟩
  | .hbm, ⟨52, _⟩ => ⟨S16384x64, .f32⟩
  | .hbm, ⟨53, _⟩ => ⟨S_, .f32⟩
  | .hbm, ⟨54, _⟩ => ⟨S_, .f32⟩
  | .hbm, ⟨55, _⟩ => ⟨S16384x64, .f32⟩
  | .hbm, ⟨56, _⟩ => ⟨S16384x64, .i1⟩
  | .hbm, ⟨57, _⟩ => ⟨S_, .f32⟩
  | .hbm, ⟨58, _⟩ => ⟨S16384x64, .f32⟩
  | .hbm, ⟨59, _⟩ => ⟨S16384x64, .f32⟩
  | .hbm, ⟨60, _⟩ => ⟨S16384x64, .f32⟩
  | .hbm, ⟨61, _⟩ => ⟨S64x2, .f32⟩
  | .hbm, ⟨62, _⟩ => ⟨S16384x2, .f32⟩
  | .hbm, ⟨63, _⟩ => ⟨S1x2, .f32⟩
  | .hbm, ⟨64, _⟩ => ⟨S16384x2, .f32⟩
  | .hbm, ⟨65, _⟩ => ⟨S16384x2, .f32⟩
  | _, _ => ⟨S16384x102, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst_0 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩

abbrev nD : Nat := 1
abbrev τ : Topo := Topo.v7x

variable {F : FTy → Type} [FloatOps F]
-- ==== Proof.Steps.Setup.lean ====
/-
  The set-up of the proof of the kernel's run: the program as the launch theorem takes it, the ghost state, the buffers that the SparseCore call works
  on, how they are cut among the thirty-two subcores, and what the call is handed and hands back (`P`). The call's answer is named here (`pairs`): row
  `r` of the gathered table is the row of the folded embedding table that half of id `r` names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionsLoop
public import Idealize.ShloMosaic.Lib.Pipeline.FrameTail
public import Idealize.ShloMosaic.Lib.Pipeline.Value
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Steps

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The host's labels: the pipelined region's own beside the kernel bodies'. -/
abbrev ΛP : Labels := Pipeline.Sig Λ₀ (Fin 1) fun p => (pcfgs (F := F) p).Adm
/-- The program's one SparseCore call. -/
abbrev K : SparseCore.Cfg τ sig (ΛP (F := F)) 1 := sc (F := F)
theorem nCore_zero : (K (F := F)).nCore 0 = 2 := rfl
theorem nSub_zero : (K (F := F)).nSub 0 = 16 := rfl
/-- What the labels run. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are four different ones, none of them a task's own, and no shared scratch is a sequencer's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelined region's rounds, the transfers' counters -/

abbrev UH : Type := URounds (GSem nD τ sig) ℕ
abbrev UU : Type := UH × (UR sig nD τ × Counters)

local notation "𝕄" => MT nD τ sig (HIx 1) (Elt F) ℕ UU ℕ

/-- The handshakes' rounds inside the whole. -/
abbrev EH : Emb UH (MT nD τ sig (HIx 1) (Elt F) ℕ UU ℕ) := embL

/-! ## The buffers of the call -/

abbrev iLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1

/-- The ids, the folded table and the gathered rows in HBM, the index list and the row buffer in a subcore's memory. -/
abbrev iV : Memref sig .scVector .hbm S16384 .i32 := Memref.whole main_arg2_scv
abbrev xV : Memref sig .scVector .hbm S50000x128 .f32 := Memref.whole main_v0_scv
abbrev oV : Memref sig .scVector .hbm S16384x128 .f32 := Memref.whole main_v1_scv
abbrev sV : Memref sig .scVector .vmem S512 .i32 := Memref.whole cc0_scratch0
abbrev rV : Memref sig .scVector .vmem S512x128 .f32 := Memref.whole cc0_scratch1

/-! ## The cut: thirty-two blocks of 512 ids and of 512 rows -/

theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := (irow w).set
abbrev oRowSet (w : Fin 32) : Finset S16384x128.Idx := (orow w).set

/-- The block of subcore `i` of core `c`: the cores take turns. -/
def wid (c : Fin 2) (i : Fin 16) : Fin 32 := ⟨2 * i.val + c.val, by omega⟩

/-- Every block is one subcore's, and one only. -/
def widEquiv : Fin 2 × Fin 16 ≃ Fin 32 where
  toFun p := wid p.1 p.2
  invFun w := (⟨w.val % 2, by omega⟩, ⟨w.val / 2, by omega⟩)
  left_inv p := by ext <;> simp [wid] <;> omega
  right_inv w := by ext; simp [wid]; omega

/-- Block `w`'s read share of the table: one of thirty-two. -/
abbrev xq (w : Fin 32) : PosShare TreeShare := ShareLeaves.leaf 5 fullShare w

/-! ## What the call answers -/

/-- The word that the index list holds for an id: the id halved, as the subcore's arithmetic shift does it. -/
def half (w : BitVec 32) : BitVec 32 := IntOp.shrsi .vector w 1#32

/-- Of an id below 100000 the half is the natural half. -/
theorem half_toNat (w : BitVec 32) (h : w.toNat < 100000) : (half w).toNat = w.toNat / 2 := by
  have hm : w.msb = false := by rw [BitVec.msb_eq_decide]; simp; omega
  unfold half IntOp.shrsi
  rw [if_pos (by decide), BitVec.sshiftRight', BitVec.toNat_sshiftRight_of_msb_false hm]
  simp [Nat.shiftRight_eq_div_pow]

/-- The row of the folded table that word `w` of the index list names (the last one for a word out of range, which no id gives). -/
def rowAt (w : BitVec 32) : Fin 50000 := ⟨min w.toNat 49999, by omega⟩

/-- The one coordinate of a list's entry. -/
def at1 (r : Fin 16384) : S16384.Idx := fun | 0 => r
/-- Row and column of the folded table. -/
def at2 (r : Fin 50000) (k : Fin 128) : S50000x128.Idx := fun | 0 => r | 1 => k

/-- THE GATHERED ROWS: row `r` is the folded table's row at half of id `r`. -/
def gathered {α : Type} (ids : S16384.Idx → BitVec 32) (tab : S50000x128.Idx → α) : S16384x128.Idx → α :=
  fun x => tab (at2 (rowAt (half (ids (at1 (x 0))))) (x 1))

/-! ## What the handshakes carry

Each core is handed its subcores' pieces side by side, so nothing is split on the way down. -/

variable (ids : (d : Dev nD) → Buf (Elt F) (iLoc d)) (tab : (d : Dev nD) → Buf (Elt F) (xLoc d)) (old : (d : Dev nD) → Buf (Elt F) (oLoc d))

/-- The rows as the call leaves them on device `d`. -/
def pairs (d : Dev nD) : Buf (Elt F) (oLoc d) := gathered (α := Elt F .f32) (ids d) (tab d)

abbrev iRowPts (d : Dev nD) (w : Fin 32) : sProp 𝕄 := iLoc d ↦[iRowSet w]{fullShare} ids d
abbrev xShPts (d : Dev nD) (w : Fin 32) : sProp 𝕄 := xLoc d ↦{xq w} tab d
abbrev oRowPts (d : Dev nD) (w : Fin 32) (f : Buf (Elt F) (oLoc d)) : sProp 𝕄 := oLoc d ↦[oRowSet w]{fullShare} f

/-- What block `w`'s subcore works on: its ids, its share of the table, its rows of the result at contents `f`. -/
abbrev piece (d : Dev nD) (w : Fin 32) (f : Buf (Elt F) (oLoc d)) : sProp 𝕄 := iprop(iRowPts ids d w ∗ xShPts tab d w ∗ oRowPts d w f)

/-- What the call carries: to a subcore its piece with the rows as they were, back the piece with the rows gathered; to and from a core all sixteen. -/
def P : (K (F := F)).Pay (nD := nD) (Val := Elt F) (Name := ℕ) (U := UU) where
  st := fun q d c => match q with
    | 0 => bigSep Finset.univ fun i : Fin 16 => piece ids tab d (wid (Fin.cast nCore_zero c) i) (old d)
  dn := fun q d c => match q with
    | 0 => bigSep Finset.univ fun i : Fin 16 => piece ids tab d (wid (Fin.cast nCore_zero c) i) (pairs ids tab d)
  go := fun q d c i => match q with
    | 0 => piece ids tab d (wid (Fin.cast nCore_zero c) (Fin.cast nSub_zero i)) (old d)
  td := fun q d c i => match q with
    | 0 => piece ids tab d (wid (Fin.cast nCore_zero c) (Fin.cast nSub_zero i)) (pairs ids tab d)
  x := fun _ _ => iprop(emp)

instance P_storable : (P (F := F) ids tab old).IsStorable where
  st q d c := match q with
    | 0 => (inferInstance : BI.Storable (upEmb : UEmb _ 𝕄)
      (bigSep Finset.univ fun i : Fin 16 => piece ids tab d (wid (Fin.cast nCore_zero c) i) (old d)))
  dn q d c := match q with
    | 0 => (inferInstance : BI.Storable (upEmb : UEmb _ 𝕄)
      (bigSep Finset.univ fun i : Fin 16 => piece ids tab d (wid (Fin.cast nCore_zero c) i) (pairs ids tab d)))
  go q d c i := match q with
    | 0 => (inferInstance : BI.Storable (upEmb : UEmb _ 𝕄) (piece ids tab d (wid (Fin.cast nCore_zero c) (Fin.cast nSub_zero i)) (old d)))
  td q d c i := match q with
    | 0 => (inferInstance : BI.Storable (upEmb : UEmb _ 𝕄) (piece ids tab d (wid (Fin.cast nCore_zero c) (Fin.cast nSub_zero i)) (pairs ids tab d)))

/-- What the run asks of the ids: each below 100000, the number of rows of the embedding table. -/
def IdsOK : Prop := ∀ (d : Dev nD) (j : S16384.Idx), (show BitVec 32 from ids d j).toNat < 100000

end Cert.Proof.Steps

end
-- ==== Proof.Steps.Tile.lean ====
/-
  One subcore's task: its 512 ids fetched, each halved in place, the rows of the folded table that the halves name gathered, the rows copied out. The
  body is gone through once, at a symbolic core and subcore.
-/
module

public import proofs.«01_k».proof.Proof.Steps.Setup

@[expose] public section

noncomputable section

namespace Cert.Proof.Steps

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (ids : (d : Dev nD) → Buf (Elt F) (iLoc d)) (tab : (d : Dev nD) → Buf (Elt F) (xLoc d)) (old : (d : Dev nD) → Buf (Elt F) (oLoc d))
variable (d : Dev nD) (L : grid0.Coords)

/-- The core and the subcore that grid point `L` names, and its block. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))
abbrev thr (d : Dev nD) (L : grid0.Coords) : Thread nD τ := V d (cV L) (jV L)

/-- The ids, the rows of the result and the whole table as the task addresses them. -/
abbrev irowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
abbrev iRowK (L : grid0.Coords) : Memref sig .scVector .hbm S512 .i32 := iV.slice (irowK L) (fun _ => rfl)
abbrev oRowK (L : grid0.Coords) : Memref sig .scVector .hbm S512x128 .f32 := oV.slice (orowK L) (fun _ => rfl)
abbrev xAllK : Memref sig .scVector .hbm S50000x128 .f32 := xV.slice (Rect.unit (s := S50000x128) ![0, 0] S50000x128.size inb_S50000x128_S50000x128_0_0) (fun _ => rfl)

/-- The task's first id is the first of its block. -/
theorem irowK_eq : irowK L = irow (wL L) := by
  unfold irowK irow Rect.part Rect.block
  congr 1 <;> funext a
  · rw [k0_off1_eq]
    match a with
    | 0 => show 1024 * (L 1).val + 512 * (L 0).val = (2 * (L 1).val + (L 0).val) * 512; omega
  · match a with
    | 0 => simp [Shape.partSize]
/-- So is its first row, of all 128 columns. -/
theorem orowK_eq : orowK L = orow (wL L) := by
  unfold orowK orow Rect.part Rect.block
  congr 1 <;> funext a
  · rw [k0_off2_eq]
    match a with
    | 0 => show 1024 * (L 1).val + 512 * (L 0).val = (2 * (L 1).val + (L 0).val) * 512; omega
    | 1 => simp [Shape.partIx, Shape.partSize]
  · match a with
    | 0 => simp [Shape.partSize]
    | 1 => simp [Shape.partSize]

theorem set_iRowK : (iRowK L).view.set = iRowSet (wL L) := by
  show ((View.whole (main_arg2_scv : Ref sig .scVector)).slice (irowK L)).set = (irow (wL L)).set
  rw [View.set_slice, irowK_eq]; exact Finset.map_refl
theorem set_oRowK : (oRowK L).view.set = oRowSet (wL L) := by
  show ((View.whole (main_v1_scv : Ref sig .scVector)).slice (orowK L)).set = (orow (wL L)).set
  rw [View.set_slice, orowK_eq]; exact Finset.map_refl

theorem pts_iRowK (f : Buf (Elt F) (iLoc d)) :
    ((iRowK L).view.loc (thr d L) ↦[(iRowK L).view.set]{fullShare} f : sProp 𝕄) = iLoc d ↦[iRowSet (wL L)]{fullShare} f := by
  rw [set_iRowK]
theorem pts_oRowK (f : Buf (Elt F) (oLoc d)) :
    ((oRowK L).view.loc (thr d L) ↦[(oRowK L).view.set]{fullShare} f : sProp 𝕄) = oLoc d ↦[oRowSet (wL L)]{fullShare} f := by
  rw [set_oRowK]
theorem pts_xV (q : PosShare TreeShare) (f : Buf (Elt F) (xLoc d)) : (xV.view.loc (thr d L) ↦{q} f : sProp 𝕄) = xLoc d ↦{q} f := rfl
theorem pts_sV (f : Buf (Elt F) ((thr d L).loc cc0_scratch0)) :
    (sV.view.loc (thr d L) ↦{fullShare} f : sProp 𝕄) = (thr d L).loc cc0_scratch0 ↦{fullShare} f := rfl
theorem pts_rV (f : Buf (Elt F) ((thr d L).loc cc0_scratch1)) :
    (rV.view.loc (thr d L) ↦{fullShare} f : sProp 𝕄) = (thr d L).loc cc0_scratch1 ↦{fullShare} f := rfl

/-! ## The subcore's own: three DMA semaphores and two buffers, and whatever else -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

theorem ownSems0_V :
    (ownSems0 (thr d L) : sProp 𝕄)
      = iprop(semVal (cAcell d (cV L) (jV L)) 0 ∗ semVal (cBcell d (cV L) (jV L)) 0 ∗ semVal (cCcell d (cV L) (jV L)) 0
          ∗ bigSep ((((ownCells (thr d L)).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The values of the task -/

/-- A chunk read out of the index buffer just after the fetch is the fetched words at the chunk's places. -/
theorem chunk_apply (r : Rect S512) (fs : Buf (Elt F) ((thr d L).loc cc0_scratch0)) (w : S512.Idx → Elt F .i32) (x : r.shape.Idx) :
    View.readAt (Elt F) sV.view r.toLoadRect (View.write (Elt F) sV.view fs w Finset.univ) x = w (r.emb x) := by
  rw [View.write_whole_univ]; rfl

/-- The fetched words: entry `y` is the id at place `y` of the task's block. -/
theorem fetched_apply (y : S512.Idx) : (iRowK L).view.read (Elt F) (ids d) y = ids d ((iRowK L).view.emb y) :=
  (View.read_apply _ _).trans (cast_eq _ _)

/-- The halves name rows of the folded table. -/
theorem half_inb (hpre : IdsOK ids) (fo : S512.Idx → Elt F .i32) (hfo : ∀ y, fo y = half (ids d ((iRowK L).view.emb y))) (x : S512.Idx) :
    (show BitVec 32 from fo x).toNat < S50000x128.size gathers_S50000x128_S512x128.axis := by
  rw [hfo]
  have h := hpre d ((iRowK L).view.emb x)
  show (half (ids d ((iRowK L).view.emb x))).toNat < 50000
  rw [half_toNat _ h]; omega

/-- Entry `k` of a list of 512 is at place `k`. -/
theorem listPlace (k : Fin S512.numel) : S512.rowMajor.symm k = (fun | 0 => (k.cast (by decide) : Fin 512) : S512.Idx) := by
  rw [Equiv.symm_apply_eq]; ext; rw [Shape.rowMajor_val_one]; rfl

/-- What the stream brings: at each place of the row buffer, the gathered row's entry at the same place of the task's block. -/
theorem stream_apply (hpre : IdsOK ids) (fo : S512.Idx → Elt F .i32) (hfo : ∀ y, fo y = half (ids d ((iRowK L).view.emb y)))
    (hn : S512.numel = S512x128.size gathers_S50000x128_S512x128.axis')
    (hin : ∀ x, (show BitVec 32 from fo x).toNat < S50000x128.size gathers_S50000x128_S512x128.axis) (x : S512x128.Idx) :
    SparseCore.gatherPayload gathers_S50000x128_S512x128 (xAllK.view.read (Elt F) (tab d)) (SparseCore.rows fo hn hin) x
      = pairs ids tab d ((oRowK L).view.emb x) := by
  unfold SparseCore.gatherPayload pairs gathered
  refine ((View.read_apply _ _).trans (cast_eq _ _)).trans (congrArg (tab d) ?_)
  -- the id's place is the row's
  have hw : (iRowK L).view.emb (S512.rowMajor.symm ((x 0 : Fin 512).cast hn.symm)) = at1 ((oRowK L).view.emb x 0) := by
    rw [listPlace]
    funext a
    match a with
    | 0 =>
      apply Fin.ext
      show (k0_off1 L) 0 + 1 * (x 0).val = (k0_off2 L) 0 + 1 * (x 0).val
      rw [k0_off1_eq, k0_off2_eq]; rfl
  have hlt := half_inb ids d L hpre fo hfo (S512.rowMajor.symm ((x 0 : Fin 512).cast hn.symm))
  funext a
  match a with
  | 0 =>
    apply Fin.ext
    show 0 + 1 * (fo (S512.rowMajor.symm ((x 0 : Fin 512).cast hn.symm)) : BitVec 32).toNat = min (half (ids d (at1 ((oRowK L).view.emb x 0)))).toNat 49999
    rw [← hw, ← hfo]
    have : BitVec.toNat (w := 32) (fo (S512.rowMajor.symm ((x 0 : Fin 512).cast hn.symm))) < 50000 := hlt
    omega
  | 1 =>
    apply Fin.ext
    show 0 + 1 * (x 1).val = (k0_off2 L) 1 + 1 * (x 1).val
    rw [k0_off2_eq]; rfl

variable [FloatOps F]

/-- A stored chunk is the halves of the ids at its places, whichever of the stores it is. -/
theorem stored_half (r : Rect S512) (pay v : r.shape.Idx → Elt F .i32) (fs : Buf (Elt F) ((thr d L).loc cc0_scratch0)) (w : S512.Idx → Elt F .i32)
    (hw : w = (iRowK L).view.read (Elt F) (ids d))
    (hv : v = View.readAt (Elt F) sV.view r.toLoadRect (View.write (Elt F) sV.view fs w Finset.univ)) (h : ∀ x, pay x = half (v x)) :
    ∀ x, (⟨r, pay⟩ : View.Piece (Elt F) S512 .i32).2 x = half (ids d ((iRowK L).view.emb (r.emb x))) := fun x => by
  subst hw hv
  exact (h x).trans (congrArg half ((chunk_apply d L r fs _ x).trans (fetched_apply ids d L _)))

/-- The rows copied out: on the task's block of the result the contents are the gathered rows. -/
theorem block_landed (f : Buf (Elt F) (oLoc d)) (pay : S512x128.Idx → Elt F .f32) (hpay : ∀ x, pay x = pairs ids tab d ((oRowK L).view.emb x)) :
    ∀ i ∈ (oRowK L).view.set, (oRowK L).view.writes (Elt F) f [⟨Rect.whole S512x128, pay⟩] i = pairs ids tab d i := by
  intro i hi
  obtain ⟨x, -, rfl⟩ := Finset.mem_map.mp hi
  have h := View.read_writes_cons_hit (oRowK L).view f (Rect.whole S512x128) pay [] x x (show (Rect.whole S512x128).emb x = x from funext fun a => Fin.ext (by show 0 + 1 * (x a).val = (x a).val; omega))
  rw [hpay] at h
  exact h

set_option maxHeartbeats 4000000 in
/-- THE TASK of block `w`: from its ids, its share of the table and its rows of the result, to the same with the rows gathered, the subcore's own buffers
    and semaphores back, nothing but its own transfers waited for. -/
theorem tile_body (hF : (K (F := F)).Facts) (hpre : IdsOK ids) (O : CellTallies nD τ sig (HIx 1)) (W : Waits sig (HIx 1)) (hO : ∀ g, O g none = 0) :
    iprop(levAts (K (F := F)).L (K (F := F)).lev ∗ emp ∗ piece ids tab d (wL L) (old d)
        ∗ scopedBufs (thr d L) ∗ scopedSems0 (thr d L) ∗ owes (thr d L) O W)
      ⊢ wp frame (wpE (defs₀ (F := F)) 𝒱₀ (thr d L) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop(piece ids tab d (wL L) (pairs ids tab d)
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- every word of the index list is the half of its id: the thirty-two stored chunks tile the list
  have hlist : ∀ y, sV.view.read (Elt F) (sV.view.writes (Elt F) sV.view.junk (tile_body.sl.Hs'_32 ids d L fs)) y
      = half (ids d ((iRowK L).view.emb y)) := by
    intro y
    refine View.read_writes_apply_of_pieces sV.view _ (fun y => half (ids d ((iRowK L).view.emb y))) (tile_body.sl.Hs'_32 ids d L fs) ?_ y
      (View.cover_of_tiled _ ![16] rfl y)
    repeat' refine List.forall_mem_cons.mpr ⟨stored_half ids d L _ _ _ fs _ rfl rfl (fun x => ?_), ?_⟩
    rotate_right
    · exact fun _ h => absurd h List.not_mem_nil
    all_goals
      simp only [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28, k0_pay29, k0_pay30,
        k0_pay31, k0_pay32, k0_pay33, k0_pay34, k0_pay35, k0_pay36, shapeCast_self]
      rfl
  -- the stream: a share of the table, the row buffer, the list whole and the cell at zero go in
  ihave Hxs := (pointsTo_split_subset (q := xq (wL L)) (f := tab d) (S := Finset.univ) (Finset.subset_univ (xAllK).view.set)).1 $$ Hx'
  icases Hxs with ⟨Hxs, Hxr⟩
  have hrs : rV.view.set = Finset.univ := View.set_whole _
  have hss : sV.view.set = Finset.univ := View.set_whole _
  ihave Hr'' := (Entails.of_eq (show (rV.view.loc (thr d L) ↦{fullShare} fr : sProp 𝕄) = rV.view.loc (thr d L) ↦[rV.view.set]{fullShare} fr by rw [hrs])) $$ Hr'
  ihave Hs'' := (Entails.of_eq (show (sV.view.loc (thr d L) ↦{fullShare} sV.view.writes (Elt F) sV.view.junk (tile_body.sl.Hs'_32 ids d L fs) : sProp 𝕄)
      = sV.view.loc (thr d L) ↦[sV.view.set]{fullShare} sV.view.writes (Elt F) sV.view.junk (tile_body.sl.Hs'_32 ids d L fs) by rw [hss])) $$ Hs'
  have hN : ∀ h : S50000x128.Gathers 0 S512x128, ∑ j, (rV.slice (S512x128.rowRect h.axis' j) (S512x128.stride_rowRect h.axis' j)).view.dmaCredit
      = rV.view.dmaCredit := by decide
  iapply (SparseCore.wp_indirectGatherLocal countersEmb 𝒱₀ (thr d L) none (hg := gathers_S50000x128_S512x128) (default : HIx 1)
      rV.view.dmaCredit (hN _) (by decide) (half_inb ids d L hpre _ hlist)) $$ [Hxs Hr'' Hs'' HsemB]
  · isplitl [Hxs]; · iexact Hxs
    isplitl [Hr'']; · iexact Hr''
    isplitl [Hs'']; · iexact Hs''
    iexact HsemB
  iintro Hfl
  sl_exec
  -- its wait: the row buffer back holding the gathered rows, the table's share and the list back as they were
  iapply (Transfers.wp_waitLocalO countersEmb 𝒱₀ (thr d L) none (default : HIx 1) (rfl : rV.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (wL L)) (f := tab d) (S := Finset.univ) (Finset.subset_univ (xAllK).view.set)).2 $$ [Hxs Hxr]; · isplitl [Hxs] <;> iassumption
  ihave Hr3 := (Entails.of_eq (show (rV.view.loc (thr d L) ↦[rV.view.set]{fullShare} _ : sProp 𝕄) = rV.view.loc (thr d L) ↦{fullShare} _ by rw [hrs])) $$ Hr'
  ihave Hs3 := (Entails.of_eq (show (sV.view.loc (thr d L) ↦[sV.view.set]{fullShare} _ : sProp 𝕄) = sV.view.loc (thr d L) ↦{fullShare} _ by rw [hss])) $$ Hs'
  sl_exec
  sl_step
  ihave Ho := (Entails.of_eq (pointsTo_congr (block_landed ids tab d L (old d) (tile_body.sl.dma0_1 ids tab d L hpre fs fr hlist) (fun x => by
    show rV.view.read (Elt F) (View.write (Elt F) rV.view fr _ Finset.univ) x = _
    rw [View.write_whole_univ]
    exact stream_apply ids tab d L hpre _ hlist _ _ x)))) $$ Ho'
  isplitl [Hi' Hx' Ho]
  · isplitl [Hi']; · iapply (Entails.of_eq (pts_iRowK (F := F) d L _)); iexact Hi'
    isplitl [Hx']; · iexact Hx'
    iapply (Entails.of_eq (pts_oRowK (F := F) d L _)); iexact Ho
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Steps

end
-- ==== Proof.Steps.Launch.lean ====
/-
  The launch of the SparseCore call: each subcore's obligation from its task (`tileObl`), a core's operands split among its subcores (`vecSplit`), and the
  three whole buffers as the thirty-two pieces that the call takes and gives back (`st_whole`, `dn_whole`).
-/
module

public import proofs.«01_k».proof.Proof.Steps.Tile

@[expose] public section

noncomputable section

namespace Cert.Proof.Steps

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (ids : (d : Dev nD) → Buf (Elt F) (iLoc d)) (tab : (d : Dev nD) → Buf (Elt F) (xLoc d)) (old : (d : Dev nD) → Buf (Elt F) (oLoc d))

/-! ## The obligation of a subcore -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs when called. -/
theorem defs₀_vector [FloatOps F] (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

/-- A task that waits for its own transfers only has not waited for the call either. -/
theorem own_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore of the call does its task. -/
theorem tileObl [FloatOps F] (hF : (K (F := F)).Facts) (hpre : IdsOK ids) : (K (F := F)).TileObl (D (F := F)) 𝒱 (P ids tab old) v₀ 0 := by
  intro d c i O W hO _ _
  simp only [show (P ids tab old).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ids tab old d (coordsV ⟨_, hci.1⟩ ⟨_, hci.2⟩) hF hpre O W hO).trans (wp_mono frame _ _ fun _ => own_waits)

/-! ## A core's operands are its subcores' pieces -/

/-- A core hands each subcore its piece, and gets from each the piece with the rows gathered. -/
theorem vecSplit : (K (F := F)).VecSplit' (P ids tab old) 0 := by
  intro d c
  show (bigSep Finset.univ fun i : Fin 16 => piece ids tab d (wid (Fin.cast nCore_zero c) i) (old d)) ⊢ |={Set.univ}=> iprop(
      (bigSep Finset.univ fun i : Fin 16 => piece ids tab d (wid (Fin.cast nCore_zero c) i) (old d))
      ∗ ((bigSep Finset.univ fun i : Fin 16 => piece ids tab d (wid (Fin.cast nCore_zero c) i) (pairs ids tab d))
          -∗ bigSep Finset.univ fun i : Fin 16 => piece ids tab d (wid (Fin.cast nCore_zero c) i) (pairs ids tab d)))
  iintro H; imodintro
  isplitl [H]; · iexact H
  iintro H; iexact H

/-! ## The whole buffers are the thirty-two pieces -/

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet fun _ _ _ _ h => Rect.part_disjoint idiv h, show Finset.univ.biUnion iRowSet = Finset.univ from Rect.biUnion_part idiv]
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet fun _ _ _ _ h => Rect.part_disjoint odiv h, show Finset.univ.biUnion oRowSet = Finset.univ from Rect.biUnion_part odiv]
theorem xPts_shares (d : Dev nD) (f : Buf (Elt F) (xLoc d)) :
    (xLoc d ↦{fullShare} f : sProp 𝕄) = bigSep Finset.univ fun w : Fin 32 => xLoc d ↦{xq w} f :=
  ShareLeaves.pointsTo_leaves Finset.univ f 5 fullShare

/-- The ids, the table and the result held whole, the result at contents `f`: the thirty-two pieces, core by core. -/
theorem whole_eq (d : Dev nD) (f : Buf (Elt F) (oLoc d)) :
    (iprop((iLoc d ↦{fullShare} ids d) ∗ (xLoc d ↦{fullShare} tab d) ∗ oLoc d ↦{fullShare} f) : sProp 𝕄)
      = bigSep Finset.univ fun c : Fin 2 => bigSep Finset.univ fun i : Fin 16 => piece ids tab d (wid c i) f := by
  rw [iPts_rows, xPts_shares, oPts_rows, ← bigSep_sep', ← bigSep_sep', bigSep_univ_equiv widEquiv, bigSep_univ_prod]
  rfl

/-- What the call takes on device `d`: the three buffers whole. -/
theorem st_whole (d : Dev nD) : (bigSep Finset.univ fun c : Fin ((K (F := F)).nCore 0) => (P ids tab old).st 0 d c)
    = (iprop((iLoc d ↦{fullShare} ids d) ∗ (xLoc d ↦{fullShare} tab d) ∗ oLoc d ↦{fullShare} old d) : sProp 𝕄) := by
  rw [whole_eq]; rfl
/-- What it gives back: the same, the result holding the gathered rows. -/
theorem dn_whole (d : Dev nD) : (bigSep Finset.univ fun c : Fin ((K (F := F)).nCore 0) => (P ids tab old).dn 0 d c)
    = (iprop((iLoc d ↦{fullShare} ids d) ∗ (xLoc d ↦{fullShare} tab d) ∗ oLoc d ↦{fullShare} pairs ids tab d) : sProp 𝕄) := by
  rw [whole_eq]; rfl

end Cert.Proof.Steps

end
-- ==== Proof.Steps.Region.lean ====
/-
  The dense part: one TensorCore region of eight points, each on 2048 rows. The body at a point (`body_run`), what it leaves in the three result blocks as
  functions of the twelve blocks it reads (`efBlk`, `outBlk`, `wideBlk`), the data of the pipeline around it (`dat`), and the region over the host's
  buffers, entered at any contents `V` (`reg`).
-/
module

public import proofs.«01_k».proof.Proof.Steps.Setup
public import Idealize.ShloMosaic.Lib.VecWindow
public import Idealize.ShloMosaic.Lib.Pipeline.FrameBody

@[expose] public section

noncomputable section

namespace Cert.Proof.Steps

open Cert.KernelIdeal Cert.KernelIdeal.Gen

open Idealize.ShloMosaic
open Idealize.ShloMosaic.SparseCore (S V T)
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf ucRefs afterRegion arrRef)

variable {F : FTy → Type} [FloatOps F]

local notation "𝕄" => MT nD τ sig (HIx 1) (Elt F) ℕ UU ℕ

/-! ## What one point computes -/

/-- The embedding's 64 features of a block: the pair of rows, the ids, the projection stacked twice, its bias. -/
abbrev efBlk (x3 : Vec F S2048x128 .f32) (x4 : Vec F S2048x1 .i32) (x5 : Vec F S128x64 .f32) (x6 : Vec F S1x64 .f32) : FVec F S2048x64 .f32 :=
  k1_pay3 x3 x4 x5 x6

/-- The two class scores of a block, from the twelve blocks read. -/
abbrev outBlk (x1 : Vec F S2048x102 .f32) (x2 : Vec F S2048x23 .f32) (x3 : Vec F S2048x128 .f32) (x4 : Vec F S2048x1 .i32) (x5 : Vec F S128x64 .f32) (x6 : Vec F S1x64 .f32)
    (x7 : Vec F S102x64 .f32) (x8 : Vec F S23x64 .f32) (x9 : Vec F S64x64 .f32) (x10 : Vec F S1x64 .f32) (x11 : Vec F S64x2 .f32) (x12 : Vec F S1x2 .f32) : FVec F S2048x2 .f32 :=
  k1_pay1 x2 (k1_pay3 x3 x4 x5 x6) (k1_pay4 x1 x7) x8 x9 x10 x11 x12

/-- The two feature blocks side by side. -/
abbrev wideBlk (x1 : Vec F S2048x102 .f32) (x2 : Vec F S2048x23 .f32) : FVec F S2048x125 .f32 := k1_pay2 x1 x2

/-- A whole memref owned at `X`: its buffer at contents that read as `X`. -/
theorem owns_isWhole (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ M.view.loc (c : Thread nD τ) ↦{fullShare} f) := by
  unfold owns; rw [Memref.IsWhole.set_eq_univ h]

/-- The body at one point: it reads twelve blocks, leaves them as they were and fills the three result blocks. -/
theorem body_run (c : Dev nD) (i : grid1.Coords)
    (M1 : Memref sig .tc .vmem S2048x102 .f32) (h1 : M1.IsWhole) (M2 : Memref sig .tc .vmem S2048x23 .f32) (h2 : M2.IsWhole)
    (M3 : Memref sig .tc .vmem S2048x128 .f32) (h3 : M3.IsWhole) (M4 : Memref sig .tc .vmem S2048x1 .i32) (h4 : M4.IsWhole)
    (M5 : Memref sig .tc .vmem S128x64 .f32) (h5 : M5.IsWhole) (M6 : Memref sig .tc .vmem S1x64 .f32) (h6 : M6.IsWhole)
    (M7 : Memref sig .tc .vmem S102x64 .f32) (h7 : M7.IsWhole) (M8 : Memref sig .tc .vmem S23x64 .f32) (h8 : M8.IsWhole)
    (M9 : Memref sig .tc .vmem S64x64 .f32) (h9 : M9.IsWhole) (M10 : Memref sig .tc .vmem S1x64 .f32) (h10 : M10.IsWhole)
    (M11 : Memref sig .tc .vmem S64x2 .f32) (h11 : M11.IsWhole) (M12 : Memref sig .tc .vmem S1x2 .f32) (h12 : M12.IsWhole)
    (M13 : Memref sig .tc .vmem S2048x2 .f32) (h13 : M13.IsWhole) (M14 : Memref sig .tc .vmem S2048x125 .f32) (h14 : M14.IsWhole)
    (M15 : Memref sig .tc .vmem S2048x64 .f32) (h15 : M15.IsWhole)
    (x1 : Vec F S2048x102 .f32) (x2 : Vec F S2048x23 .f32) (x3 : Vec F S2048x128 .f32) (x4 : Vec F S2048x1 .i32) (x5 : Vec F S128x64 .f32) (x6 : Vec F S1x64 .f32)
    (x7 : Vec F S102x64 .f32) (x8 : Vec F S23x64 .f32) (x9 : Vec F S64x64 .f32) (x10 : Vec F S1x64 .f32) (x11 : Vec F S64x2 .f32) (x12 : Vec F S1x2 .f32)
    (E : Set ℕ) (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12
        ∗ (∃ X, owns (c : Thread nD τ) M13 fullShare X) ∗ (∃ X, owns (c : Thread nD τ) M14 fullShare X) ∗ (∃ X, owns (c : Thread nD τ) M15 fullShare X)
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12
            ∗ owns (c : Thread nD τ) M13 fullShare (outBlk x1 x2 x3 x4 x5 x6 x7 x8 x9 x10 x11 x12)
            ∗ owns (c : Thread nD τ) M14 fullShare (wideBlk x1 x2)
            ∗ owns (c : Thread nD τ) M15 fullShare (efBlk x3 x4 x5 x6)) -∗ Q ⟨⟩))
      ⊢ wp frame (wpE (defs₀ (F := F)) 𝒱₀ c none) E
          (cc1__mlp_body i M1 h1 M2 h2 M3 h3 M4 h4 M5 h5 M6 h6 M7 h7 M8 h8 M9 h9 M10 h10 M11 h11 M12 h12 M13 h13 M14 h14 M15 h15) Q := by
  simp only [owns_isWhole c h1, owns_isWhole c h2, owns_isWhole c h3, owns_isWhole c h4, owns_isWhole c h5, owns_isWhole c h6, owns_isWhole c h7, owns_isWhole c h8, owns_isWhole c h9, owns_isWhole c h10, owns_isWhole c h11, owns_isWhole c h12, owns_isWhole c h13, owns_isWhole c h14, owns_isWhole c h15]
  rw [cc1__mlp_body_eq_skeleton]; unfold cc1__mlp_body_skel
  rw [k1_part1_eq_skeleton]; unfold k1_part1_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%x13, %f13, -, H13⟩, ⟨%x14, %f14, -, H14⟩, ⟨%x15, %f15, -, H15⟩, Hk⟩
  subst e1; subst e2; subst e3; subst e4; subst e5; subst e6; subst e7; subst e8; subst e9; subst e10; subst e11; subst e12
  sl_exec
  sl_step
  iapply Hk
  isplitl [H1]; · iexists _; isplitr; (· ipureintro; rfl); iexact H1
  isplitl [H2]; · iexists _; isplitr; (· ipureintro; rfl); iexact H2
  isplitl [H3]; · iexists _; isplitr; (· ipureintro; rfl); iexact H3
  isplitl [H4]; · iexists _; isplitr; (· ipureintro; rfl); iexact H4
  isplitl [H5]; · iexists _; isplitr; (· ipureintro; rfl); iexact H5
  isplitl [H6]; · iexists _; isplitr; (· ipureintro; rfl); iexact H6
  isplitl [H7]; · iexists _; isplitr; (· ipureintro; rfl); iexact H7
  isplitl [H8]; · iexists _; isplitr; (· ipureintro; rfl); iexact H8
  isplitl [H9]; · iexists _; isplitr; (· ipureintro; rfl); iexact H9
  isplitl [H10]; · iexists _; isplitr; (· ipureintro; rfl); iexact H10
  isplitl [H11]; · iexists _; isplitr; (· ipureintro; rfl); iexact H11
  isplitl [H12]; · iexists _; isplitr; (· ipureintro; rfl); iexact H12
  isplitl [H13]; · iexists _; isplitr; swap; (· iexact H13); ipureintro; refine (View.read_writes_full _ _ _ _ _).trans ?_; repeat rw [View.readAt_full]
  isplitl [H14]; · iexists _; isplitr; swap; (· iexact H14); ipureintro; refine (View.read_writes_full _ _ _ _ _).trans ?_; repeat rw [View.readAt_full]
  iexists _; isplitr; swap; (· iexact H15); ipureintro; refine (View.read_writes_full _ _ _ _ _).trans ?_; repeat rw [View.readAt_full]

/-! ## The pipeline's data -/

variable (V : Dev nD → Valuation τ sig (Elt F))

/-- Window `w`'s block at point `t`, read off the array as the region finds it. -/
abbrev blkOf (c : Dev nD) (w : Fin 15) (t : Fin cfg1.N) : ((cfg1.win w).xblock (cfg1.grid.coords t)).Idx → Elt F (cfg1.win w).elt :=
  ((cfg1.win w).blk t).view.read (Elt F) (V c (Proc.devRef .tc (arrRef spec1 w)))

/-- The waits recorded so far stay below the levels of what follows the SparseCore call. -/
abbrev low (c : Dev nD) : Set (SemLoc sig × HIx 1) := {p | (K (F := F)).lev (T c, p.1) p.2 ≤ 8}

/-- The region's data from contents `V`: the input blocks stay, the three results are the body's. -/
def dat (c : Dev nD) : Dat τ (Elt F) (HIx 1) ℕ UU ℕ cfg1 c where
  A w := V c (Proc.devRef .tc (arrRef spec1 w))
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
    | ⟨7, _⟩ => blkOf V c 7 t
    | ⟨8, _⟩ => blkOf V c 8 t
    | ⟨9, _⟩ => blkOf V c 9 t
    | ⟨10, _⟩ => blkOf V c 10 t
    | ⟨11, _⟩ => blkOf V c 11 t
    | ⟨12, _⟩ => outBlk (blkOf V c 0 t) (blkOf V c 1 t) (blkOf V c 2 t) (blkOf V c 3 t) (blkOf V c 4 t) (blkOf V c 5 t) (blkOf V c 6 t) (blkOf V c 7 t) (blkOf V c 8 t) (blkOf V c 9 t) (blkOf V c 10 t) (blkOf V c 11 t)
    | ⟨13, _⟩ => wideBlk (blkOf V c 0 t) (blkOf V c 1 t)
    | ⟨14, _⟩ => efBlk (blkOf V c 2 t) (blkOf V c 3 t) (blkOf V c 4 t) (blkOf V c 5 t)
  Φ _ := Pipeline.scopedRest (Ix := HIx 1) (Name := ℕ) (U := UU) (Lvl := ℕ) (Val := Elt F) spec1 c
  q _ := fullShare
  owed _ := 0
  recorded _ := low (F := F) c

/-- An input's buffer holds its block whenever the body runs. -/
theorem before_in (c : Dev nD) : ∀ (w : Fin 15) (_ : w.val < 12) (t : Fin cfg1.N) (d : (cfg1.win w).block.Idx → Elt F (cfg1.win w).elt),
    (dat V c).before w t d = (dat V c).fetched w t d
  | ⟨0, _⟩, _, t, d | ⟨1, _⟩, _, t, d | ⟨2, _⟩, _, t, d | ⟨3, _⟩, _, t, d | ⟨4, _⟩, _, t, d | ⟨5, _⟩, _, t, d
  | ⟨6, _⟩, _, t, d | ⟨7, _⟩, _, t, d | ⟨8, _⟩, _, t, d | ⟨9, _⟩, _, t, d | ⟨10, _⟩, _, t, d | ⟨11, _⟩, _, t, d =>
    (dat V c).before_in_eq_fetched _ rfl (fun _ => rfl) (fun _ _ _ => rfl) (fun _ => rfl) t d
  | ⟨n + 12, _⟩, h, _, _ => absurd h (Nat.not_lt.2 (Nat.le_add_left _ _))

/-- The pipeline's obligation: the body at every point. -/
theorem body_obligation (c : Dev nD) : BodyObligation (dat V c) (defs₀ (F := F)) 𝒱₀ none Set.univ := fun t => by
  rw [bigSep_W1, bigSep_W1]
  rw [show (dat V c).Φ t.succ = (dat V c).Φ t.castSucc from rfl, show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [before_in V c 0 (by decide), before_in V c 1 (by decide), before_in V c 2 (by decide), before_in V c 3 (by decide), before_in V c 4 (by decide), before_in V c 5 (by decide), before_in V c 6 (by decide), before_in V c 7 (by decide), before_in V c 8 (by decide), before_in V c 9 (by decide), before_in V c 10 (by decide), before_in V c 11 (by decide)]
  iapply (body_run (F := F) c (grid1.coords t) _ _ _ _ _ _ _ _ _ _ _ _ _ _ _ _ _ _ _ _ _ _ _ _ _ _ _ _ _ _ (blkOf V c 0 t) (blkOf V c 1 t) (blkOf V c 2 t) (blkOf V c 3 t) (blkOf V c 4 t) (blkOf V c 5 t) (blkOf V c 6 t) (blkOf V c 7 t) (blkOf V c 8 t) (blkOf V c 9 t) (blkOf V c 10 t) (blkOf V c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro Hs
  isplitl [HΦ]; · iexact HΦ
  isplitl [Ho]; · iexact Ho
  iexact Hs

/-! ## The region over the host's buffers -/

/-- The one pipeline prefetches no table. -/
abbrev adm : (p : Fin 1) → (pcfgs (F := F) p).Adm := fun p => (cfgs p).toPCfg_adm

/-- The data of the program's pipelines: there is one. -/
def pdats : (p : Fin 1) → (c : Dev nD) → Dat τ (Elt F) (HIx 1) ℕ UU ℕ (Pipeline.pin (pcfgs (F := F)) adm p) c
  | ⟨0, _⟩ => fun c => dat V c

/-- The buffers as the region leaves them. -/
abbrev Vpost (c : Dev nD) : Valuation τ sig (Elt F) := afterRegion (dat V c) (V c)

/-- What the core owes around the region: nothing, its recorded waits low. -/
abbrev idle (c : Dev nD) : sProp 𝕄 := iprop(∃ W, ⌜(K (F := F)).WBelow (T c) W 8⌝ ∗ owes (T c) (0 : CellTallies nD τ sig (HIx 1)) W)

set_option backward.isDefEq.respectTransparency.types false in
/-- The region, from the host's buffers at `V` to the same buffers with the three results written. -/
def reg : Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(StableHlo.held (T c) (ucRefs τ sig) (V c) ∗ idle c)
  post c := iprop(StableHlo.held (T c) (ucRefs τ sig) (Vpost V c) ∗ idle c)
  X _ := BI.emp
  Y _ := BI.emp
  Z c := Pipeline.unscopedRest (Ix := HIx 1) (Name := ℕ) (U := UU) (Lvl := ℕ) spec1 c (fun b => V c (Proc.devRef .tc b))
  hentry c := by
    rw [Pipeline.ownSems0_none,
      show StableHlo.held (T c) (ucRefs τ sig) (V c) = unscopedBufs c (fun b => V c (Proc.devRef .tc b))
        from (Pipeline.unscopedBufs_held (Ix := HIx 1) (Name := ℕ) (U := UU) (Lvl := ℕ) c (V c)).symm]
    have hsplit := Pipeline.arrays_of_unscopedBufs (p := 0) (pcfgs (F := F)) adm (pdats V) launch1.win launch1.arr_whole c
      ((pdats V 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (fun b => V c (Proc.devRef .tc b)) (fun b => Vpost V c (Proc.devRef .tc b)) ((dat V c).arrAt · cfg1.N)
      (fun w => (Pipeline.afterRegion_arr (dat V c) (V c) launch1.win.arr_inj w).symm)
      (fun b hb => Pipeline.afterRegion_of_not_arr (dat V c) (V c) fun w h => hb (h ▸ Finset.mem_image.mpr ⟨w, Finset.mem_univ _, rfl⟩))
    rw [show StableHlo.held (T c) (ucRefs τ sig) (Vpost V c) = unscopedBufs c (fun b => Vpost V c (Proc.devRef .tc b))
        from (Pipeline.unscopedBufs_held (Ix := HIx 1) (Name := ℕ) (U := UU) (Lvl := ℕ) c (Vpost V c)).symm]
    iintro ⟨Ha, HO, -, Hrest⟩
    imodintro
    isplitl [Ha Hrest]
    · iapply hjoin; isplitl [Ha]; (· iexact Ha); iexact Hrest
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

end Cert.Proof.Steps

end
-- ==== Proof.Steps.Main.lean ====
/-
  @main on the TensorCore: the table folded, the SparseCore call, the fourteen host operations that lay the weights out, the dense region. Every buffer's
  contents at the end are named (`V4`), and the whole program's run is stated over them (`run_main`).
-/
module

public import proofs.«01_k».proof.Proof.Steps.Launch
public import proofs.«01_k».proof.Proof.Steps.Region

@[expose] public section

noncomputable section

namespace Cert.Proof.Steps

open Cert.KernelIdeal Cert.KernelIdeal.Gen

open Idealize.ShloMosaic
open Idealize.ShloMosaic.SparseCore (S V T)
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs)

variable {F : FTy → Type} [FloatOps F]

local notation "𝕄" => MT nD τ sig (HIx 1) (Elt F) ℕ UU ℕ

/-! ## @main, cut at its two calls -/

/-- The operation before the SparseCore call: two rows of the table become one row of 128 lanes. -/
abbrev preOps : List (HloOp τ sig (Elt F)) :=
  [StableHlo.reshape main_arg3 main_v0 (rfl : (.f32 : EltTy) = .f32) shapeCasts_S100000x64_S50000x128]

/-- The operations between the calls: the weights cut, transposed and stacked, the biases and the ids laid out as matrices. -/
abbrev midOps : List (HloOp τ sig (Elt F)) :=
  [StableHlo.unary main_arg4 main_v2 ((transpose S64x64 [1, 0] · transposes_S64x64_S64x64_1_0) : (⟨S64x64, .f32⟩ : BufTy).Contents (Elt F) → (⟨S64x64, .f32⟩ : BufTy).Contents (Elt F)),
   StableHlo.unary main_arg4 main_v3 ((transpose S64x64 [1, 0] · transposes_S64x64_S64x64_1_0) : (⟨S64x64, .f32⟩ : BufTy).Contents (Elt F) → (⟨S64x64, .f32⟩ : BufTy).Contents (Elt F)),
   StableHlo.binary main_v2 main_v3 main_v4 ((fun a b => concatenate S128x64 0 [⟨S64x64, a⟩, ⟨S64x64, b⟩] concatenates_S64x64_S64x64_S128x64_d0) : (⟨S64x64, .f32⟩ : BufTy).Contents (Elt F) → (⟨S64x64, .f32⟩ : BufTy).Contents (Elt F) → (⟨S128x64, .f32⟩ : BufTy).Contents (Elt F)),
   StableHlo.unary main_arg6 main_v5 ((extractStridedSlice S64x102 ![0, 0] · slices_S64x189_S64x102_0_0) : (⟨S64x189, .f32⟩ : BufTy).Contents (Elt F) → (⟨S64x102, .f32⟩ : BufTy).Contents (Elt F)),
   StableHlo.unary main_v5 main_v6 ((transpose S102x64 [1, 0] · transposes_S64x102_S102x64_1_0) : (⟨S64x102, .f32⟩ : BufTy).Contents (Elt F) → (⟨S102x64, .f32⟩ : BufTy).Contents (Elt F)),
   StableHlo.unary main_arg6 main_v7 ((extractStridedSlice S64x23 ![0, 102] · slices_S64x189_S64x23_0_102) : (⟨S64x189, .f32⟩ : BufTy).Contents (Elt F) → (⟨S64x23, .f32⟩ : BufTy).Contents (Elt F)),
   StableHlo.unary main_v7 main_v8 ((transpose S23x64 [1, 0] · transposes_S64x23_S23x64_1_0) : (⟨S64x23, .f32⟩ : BufTy).Contents (Elt F) → (⟨S23x64, .f32⟩ : BufTy).Contents (Elt F)),
   StableHlo.unary main_arg6 main_v9 ((extractStridedSlice S64x64 ![0, 125] · slices_S64x189_S64x64_0_125) : (⟨S64x189, .f32⟩ : BufTy).Contents (Elt F) → (⟨S64x64, .f32⟩ : BufTy).Contents (Elt F)),
   StableHlo.unary main_v9 main_v10 ((transpose S64x64 [1, 0] · transposes_S64x64_S64x64_1_0) : (⟨S64x64, .f32⟩ : BufTy).Contents (Elt F) → (⟨S64x64, .f32⟩ : BufTy).Contents (Elt F)),
   StableHlo.unary main_arg8 main_v11 ((transpose S64x2 [1, 0] · transposes_S2x64_S64x2_1_0) : (⟨S2x64, .f32⟩ : BufTy).Contents (Elt F) → (⟨S64x2, .f32⟩ : BufTy).Contents (Elt F)),
   StableHlo.reshape main_arg2 main_v12 (rfl : (.i32 : EltTy) = .i32) shapeCasts_S16384_S16384x1,
   StableHlo.reshape main_arg5 main_v13 (rfl : (.f32 : EltTy) = .f32) shapeCasts_S64_S1x64,
   StableHlo.reshape main_arg7 main_v14 (rfl : (.f32 : EltTy) = .f32) shapeCasts_S64_S1x64,
   StableHlo.reshape main_arg9 main_v15 (rfl : (.f32 : EltTy) = .f32) shapeCasts_S2_S1x2]

theorem preOps_sub : ∀ op ∈ (preOps : List (HloOp τ sig (Elt F))), op.bufs ⊆ ucRefs τ sig := fun op h =>
  Pipeline.sub_ucRefs op (List.forall_iff_forall_mem.mp (show (preOps : List (HloOp τ sig (Elt F))).Forall fun op => op.bufs ⊆ StableHlo.tcRefs τ sig by
    simp only [preOps, StableHlo.reshape_bufs_sub, List.Forall]) op h)
theorem midOps_sub : ∀ op ∈ (midOps : List (HloOp τ sig (Elt F))), op.bufs ⊆ ucRefs τ sig := fun op h =>
  Pipeline.sub_ucRefs op (List.forall_iff_forall_mem.mp (show (midOps : List (HloOp τ sig (Elt F))).Forall fun op => op.bufs ⊆ StableHlo.tcRefs τ sig by
    simp only [midOps, StableHlo.unary_bufs_sub, StableHlo.binary_bufs_sub, StableHlo.reshape_bufs_sub, List.Forall, _root_.and_self]) op h)
theorem preOps_fresh : ∀ op ∈ (preOps : List (HloOp τ sig (Elt F))), op.fresh = ∅ := by
  intro _ h; (repeat (cases h with | head => rfl | tail _ h => ?_)); exact nomatch h
theorem midOps_fresh : ∀ op ∈ (midOps : List (HloOp τ sig (Elt F))), op.fresh = ∅ := by
  intro _ h; (repeat (cases h with | head => rfl | tail _ h => ?_)); exact nomatch h

/-- @main is its operations around its two calls. -/
theorem main_eq (d : Dev nD) : main (F := F) d = StableHlo.seq preOps >>= fun _ => (K (F := F)).run d 0 >>= fun _ =>
    StableHlo.seq midOps >>= fun _ => Prog.lift (.customCall (SparseCore.inner (Pipeline.entry 0)) ()) := by
  simp only [main, StableHlo.seq, bind_assoc, pure_bind]
  rfl

/-! ## The buffers' contents from step to step -/

variable (m : (ℓ : Loc nD τ sig) → Buf (Elt F) ℓ) (ρ : Dev nD → PrngReg)

abbrev V0 (d : Dev nD) : Valuation τ sig (Elt F) := StableHlo.launchContents m d
abbrev V1 (d : Dev nD) : Valuation τ sig (Elt F) := StableHlo.after preOps (V0 m d)

/-- What the SparseCore call reads, and what its result array held before. -/
abbrev ids (d : Dev nD) : Buf (Elt F) (iLoc d) := V1 m d (Proc.devRef .tc main_arg2)
abbrev tab (d : Dev nD) : Buf (Elt F) (xLoc d) := V1 m d (Proc.devRef .tc main_v0)
abbrev old (d : Dev nD) : Buf (Elt F) (oLoc d) := V1 m d (Proc.devRef .tc main_v1)

/-- After the SparseCore call: the gathered pairs of rows. -/
def V2 (d : Dev nD) : Valuation τ sig (Elt F) := Function.update (V1 m d) (Proc.devRef .tc main_v1) (pairs (ids m) (tab m) d)
abbrev V3 (d : Dev nD) : Valuation τ sig (Elt F) := StableHlo.after midOps (V2 m d)
abbrev V4 (d : Dev nD) : Valuation τ sig (Elt F) := Vpost (V3 m) d

abbrev PP : (K (F := F)).Pay (nD := nD) (Val := Elt F) (Name := ℕ) (U := UU) := P (ids m) (tab m) (old m)

/-- The call's three buffers among the host's. -/
abbrev callRefs : Finset (DevRef τ sig) := {Proc.devRef .tc main_arg2, Proc.devRef .tc main_v0, Proc.devRef .tc main_v1}

theorem held_callRefs (d : Dev nD) (W : Valuation τ sig (Elt F)) :
    (StableHlo.held (T d) callRefs W : sProp 𝕄)
      = iprop((iLoc d ↦{fullShare} W (Proc.devRef .tc main_arg2)) ∗ (xLoc d ↦{fullShare} W (Proc.devRef .tc main_v0)) ∗ oLoc d ↦{fullShare} W (Proc.devRef .tc main_v1)) := by
  unfold StableHlo.held
  rw [SparseCore.bigSep_insert' (by decide), SparseCore.bigSep_insert' (by decide), bigSep_singleton]

theorem callRefs_sub : (callRefs : Finset (DevRef τ sig)) ⊆ ucRefs τ sig := by
  intro b hb
  simp only [Finset.mem_insert, Finset.mem_singleton] at hb
  rcases hb with rfl | rfl | rfl <;> exact Pipeline.devRef_mem_ucRefs rfl

/-- The host's buffers before the SparseCore call: its three, and the rest. -/
theorem held_before (d : Dev nD) : (StableHlo.held (T d) (ucRefs τ sig) (V1 m d) : sProp 𝕄)
    = iprop(((iLoc d ↦{fullShare} ids m d) ∗ (xLoc d ↦{fullShare} tab m d) ∗ oLoc d ↦{fullShare} old m d)
        ∗ StableHlo.held (T d) (ucRefs τ sig \ callRefs) (V1 m d)) := by
  rw [StableHlo.held_sub_split (T d) callRefs_sub, held_callRefs]

/-- The host's buffers after it: the same with the pairs gathered. -/
theorem held_after (d : Dev nD) : (StableHlo.held (T d) (ucRefs τ sig) (V2 m d) : sProp 𝕄)
    = iprop(((iLoc d ↦{fullShare} ids m d) ∗ (xLoc d ↦{fullShare} tab m d) ∗ oLoc d ↦{fullShare} pairs (ids m) (tab m) d)
        ∗ StableHlo.held (T d) (ucRefs τ sig \ callRefs) (V1 m d)) := by
  rw [StableHlo.held_sub_split (T d) callRefs_sub, held_callRefs]
  rw [StableHlo.held_congr (T d) (S := ucRefs τ sig \ callRefs) (V := V2 m d) (V' := V1 m d) fun b hb =>
    Function.update_of_ne (fun e => (Finset.mem_sdiff.mp hb).2 (by rw [e]; decide)) _ _]
  rw [show V2 m d (Proc.devRef .tc main_arg2) = ids m d from Function.update_of_ne (by decide) _ _,
    show V2 m d (Proc.devRef .tc main_v0) = tab m d from Function.update_of_ne (by decide) _ _,
    show V2 m d (Proc.devRef .tc main_v1) = pairs (ids m) (tab m) d from Function.update_self _ _ _]

/-! ## The launch element -/

/-- The pipelined region's rounds inside the whole ghost state. -/
abbrev EP : Emb (UR sig nD τ) (MT nD τ sig (HIx 1) (Elt F) ℕ UU ℕ) := (Emb.inl : Emb (UR sig nD τ) (UR sig nD τ × Counters)).trans embR

theorem pinj : Function.Injective (Pipeline.cellOf (nD := nD) (τ := τ) (Pipeline.pin (pcfgs (F := F)) adm)) := launch1.toP.cellOf_inj adm

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- What device `d`'s TensorCore keeps for its region. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- A sum over the devices of a sum over the one pipeline is the sum over the devices. -/
theorem one (Φ : Dev nD → sProp 𝕄) (Ψ : Dev nD → Fin 1 → sProp 𝕄) (h : ∀ d, Ψ d 0 = Φ d) :
    (bigSep Finset.univ fun d => bigSep Finset.univ fun p : Fin 1 => Ψ d p) ⊢ bigSep Finset.univ Φ :=
  Entails.of_eq (bigSep_congr fun d _ => (bigSep_univ_of_subsingleton (0 : Fin 1)).trans (h d))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP pinj) $$ HP with ⟨Hg, Ht⟩
  imodintro
  isplitl [HH]; · iexact HH
  isplitl [Hg Ht]
  · rw [bigSep_sep']
    isplitl [Hg]
    · iapply (one (fun d => Pipeline.cellsGhost (Pipeline.pin (pcfgs (F := F)) adm) EP 0 d) (fun d p => Pipeline.cellsGhost (Pipeline.pin (pcfgs (F := F)) adm) EP p d) fun _ => rfl); iexact Hg
    · iapply (one (fun d => Pipeline.toksInit (Pipeline.pin (pcfgs (F := F)) adm) EP 0 d) (fun d p => Pipeline.toksInit (Pipeline.pin (pcfgs (F := F)) adm) EP p d) fun _ => rfl); iexact Ht
  rw [show (bigSep Finset.univ fun thr : Thread nD τ => bigSep Finset.univ fun q : Fin 1 => (PP (F := F) m).x q thr) = iprop(emp) from
    (bigSep_congr fun _ _ => bigSep_univ_of_subsingleton (0 : Fin 1)).trans (bigSep_emp_const _)]
  iempintro

/-! ## @main on the TensorCore -/

/-- What is left on device `d`: every buffer of the host, at its last contents. -/
abbrev FIN (d : Dev nD) : sProp 𝕄 := StableHlo.held (T d) (ucRefs τ sig) (V4 m d)

/-- The launch's buffers are the host's at the launch contents. -/
theorem held_launch (d : Dev nD) : (unscopedBufs d (fun b => m ((SparseCore.T d).loc b)) : sProp 𝕄) = StableHlo.held (SparseCore.T d) (ucRefs τ sig) (V0 m d) := by
  have e := Pipeline.unscopedBufs_held (Ix := HIx 1) (Name := ℕ) (U := UU) (Lvl := ℕ) d (V0 m d)
  rw [← show (unscopedBufs d (fun b => m ((SparseCore.T d).loc b)) : sProp 𝕄) = unscopedBufs d (fun b => V0 m d (Proc.devRef .tc b)) from rfl] at e
  exact e

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_launch, main_eq]
  iintro ⟨#Hctx, Hst, ⟨Hb, Hh, Hts, -⟩, Hg, Ht⟩
  iapply (StableHlo.wp_seq 𝒱 none Set.univ d (ucRefs τ sig) _ preOps preOps_sub preOps_fresh (V0 m d)) $$ [Hb Hh]
  · isplitl [Hb] <;> iassumption
  iintro ⟨Hb, Hh⟩
  ihave Hh' := (Entails.of_eq (held_before m d)) $$ Hh
  icases Hh' with ⟨Hc, Hrest⟩
  rw [wp_bind]
  iapply ((K (F := F)).wp_run (D (F := F)) 𝒱 (EH := EH) (P := PP m) κ d 0) $$ [Hst Hc Hrest Hb Hts Hg Ht]
  isplitr; · iexact Hctx
  isplitl [Hst]; · iexact Hst
  isplitl [Hc]; · rw [st_whole]; iexact Hc
  iintro ⟨Hst, Hdn⟩
  ihave Hc := (Entails.of_eq (dn_whole (ids m) (tab m) (old m) d)) $$ Hdn
  ihave Hh := (Entails.of_eq (held_after m d).symm) $$ [Hc Hrest]
  · isplitl [Hc] <;> iassumption
  iapply (StableHlo.wp_seq 𝒱 none Set.univ d (ucRefs τ sig) _ midOps midOps_sub midOps_fresh (V2 m d)) $$ [Hb Hh]
  · isplitl [Hb] <;> iassumption
  iintro ⟨Hb, Hh⟩
  unfold SparseCore.Cfg.tcSt
  rw [(K (F := F)).Otc_end d (le_refl 1)]
  icases Hst with ⟨⟨%W, %hW, HO⟩, Hst⟩
  ihave HO := (Entails.of_eq (congrArg (fun O => (owes (SparseCore.T d) O W : sProp 𝕄)) ((K (F := F)).Otc_end d (n := (0 : Fin 1).val + 1) (le_refl 1)))) $$ HO
  iapply ((K (F := F)).wp_liftProg (D (F := F)) 𝒱 (SparseCore.T d) Set.univ none (.op (.customCall (Pipeline.entry 0) ()) fun x => .ret x) _)
  iapply (Pipeline.RegionSeg.wp (pcfgs (F := F)) adm (pdats (V3 m)) none pinj EP defs₀ 𝒱₀ (K (F := F)).L (K (F := F)).lev (reg (V3 m)) d none
    (fun _ h => nomatch h) _ _)
  isplitl [Hst Hts]
  · iintro ⟨Hb, Hp⟩
    ihave Hp := (Entails.of_eq (show (reg (V3 m)).post d = iprop(StableHlo.held (SparseCore.T d) (ucRefs τ sig) (V4 m d) ∗ idle d) from rfl)) $$ Hp
    icases Hp with ⟨Hh, %W', %hW', HO⟩
    rw [wp_ret]
    imodintro
    isplitl [Hst HO]
    · isplitl [HO]
      · iexists W'; isplitr; · ipureintro; exact hW'
        iexact HO
      iexact Hst
    isplitl [Hh]; · iexact Hh
    isplitl [Hb] <;> iassumption
  isplitl [Hb]; · iexact Hb
  isplitl [Hh HO]
  · rw [show (reg (V3 m)).pre d = iprop(StableHlo.held (SparseCore.T d) (ucRefs τ sig) (V3 m d) ∗ idle d) from rfl]
    isplitl [Hh]; · iexact Hh
    iexists W; isplitr; · ipureintro; exact hW
    iexact HO
  isplitr; · iapply (SparseCore.Cfg.ctx_levAts κ); iexact Hctx
  isplitl [Hg] <;> iassumption

/-! ## The whole run -/

/-- The final state's memory holds the last contents in every buffer of the host. -/
def fq (d : Dev nD) (s' : Phys nD τ sig (Elt F)) : Prop := ∀ b ∈ ucRefs τ sig, s'.mem.mem (d, b) = V4 m d b

theorem hfin (d : Dev nD) (s' : Phys nD τ sig (Elt F)) : iprop(FIN m d ∗ SI s') ⊢ (⌜fq m d s'⌝ : sProp 𝕄) := by
  iintro ⟨Hh, HSI⟩
  ihave Hr := (pointsTo_read_all (ucRefs τ sig) (fun b => (d, b)) (V4 m d) s') $$ [Hh HSI]
  · isplitl [Hh]; (· unfold FIN StableHlo.held; iexact Hh); iexact HSI
  icases Hr with ⟨%h, -⟩
  ipureintro; exact h

/-- The whole program: from ids below 100000 it ends, every counter at zero and every buffer of the host at its last contents. -/
theorem run_main [∀ e, Nonempty (Elt F e)] (hok : IdsOK (ids m)) :
    θ_run (Cert.KernelIdeal.defs (F := F)) (Cert.KernelIdeal.threads (F := F)) ⟨m, fun _ => 0, ρ⟩
      fun r => (∀ (d : Dev nD) (b : Ref sig .tc), b.isScoped = false → r.2.mem ((SparseCore.T d).loc b) = V4 m d (Proc.devRef .tc b)) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (ids m) (tab m) (old m) facts hok)
    (fun q _ => match q with | 0 => SparseCore.Cfg.VecSplit.of_plain (vecSplit (ids m) (tab m) (old m)))
    m ρ main G (FIN m) (u₀ (F := F)) (sep_elim_left.trans (hu₀ m)) (hmain m ρ) (fq m) (hfin m) _
    (fun _ h hz => ⟨fun d b hb => h d _ (Pipeline.devRef_mem_ucRefs hb), hz⟩)

end Cert.Proof.Steps

end
-- ==== Proof.Steps.Ends.lean ====
/-
  What the whole run of Main.lean says of the arguments and the results: the arguments are never written, the results are what the dense region left, and a
  precondition read at the ids is `IdsOK`.
-/
module

public import proofs.«01_k».proof.Proof.Steps.Main
public import proofs.«01_k».proof.Proof.Gen.Pre_in_range
public import Idealize.ShloMosaic.Lib.ReduceAll
public import Idealize.ShloMosaic.Lib.StableHlo.RunRead
public import Idealize.ShloMosaic.Lib.Pipeline.RegionArraysS

@[expose] public section

noncomputable section

namespace Cert.Proof.Steps

open Cert.KernelIdeal Cert.KernelIdeal.Gen

open Idealize.ShloMosaic
open Idealize.SL Idealize.SL.Sem

variable {F : FTy → Type} [FloatOps F]

variable (m : (ℓ : Loc nD τ sig) → Buf (Elt F) ℓ) (ρ : Dev nD → PrngReg)

/-- What the operations between the calls write, in order. -/
abbrev midRefs : List (Ref sig .tc) :=
  [main_v2, main_v3, main_v4, main_v5, main_v6, main_v7, main_v8, main_v9, main_v10, main_v11, main_v12, main_v13, main_v14, main_v15]

/-- A buffer the operations between the calls do not write enters the region as the SparseCore call left it. -/
theorem V3_unwritten (d : Dev nD) (r : Ref sig .tc) (h : r ∉ midRefs) : V3 m d (Proc.devRef .tc r) = V2 m d (Proc.devRef .tc r) :=
  StableHlo.after_unwritten midRefs rfl h _

/-- A buffer that is neither the folded table nor the fetched rows is, after the SparseCore call, as launched. -/
theorem V2_launched (d : Dev nD) (r : Ref sig .tc) (h0 : r ∉ [main_v0]) (h1 : r ≠ main_v1) :
    V2 m d (Proc.devRef .tc r) = m ((d.tc : Thread nD τ).loc r) :=
  (Function.update_of_ne (fun e => h1 (Proc.devRef_injective _ e)) _ _).trans
    (StableHlo.after_unwritten [main_v0] rfl h0 _)

/-- A buffer nothing writes ends as launched. -/
theorem V4_launched (d : Dev nD) (r : Ref sig .tc) (h : r ∉ midRefs) (h0 : r ∉ [main_v0]) (h1 : r ≠ main_v1)
    (ho : ∀ w, Pipeline.arrRef spec1 w = r → (cfg1.win w).isOut = false) :
    V4 m d (Proc.devRef .tc r) = m ((d.tc : Thread nD τ).loc r) :=
  (Pipeline.afterRegion_keeps (dat (V3 m) d) (V3 m d) launch1.win.arr_inj (fun _ => rfl) r ho).trans
    ((V3_unwritten m d r h).trans (V2_launched m d r h0 h1))

/-- An array of the region ends as the region's data say. -/
theorem V4_arr (d : Dev nD) (w : Fin cfg1.W) : V4 m d (Proc.devRef .tc (Pipeline.arrRef spec1 w)) = (dat (V3 m) d).arrAt w cfg1.N :=
  Pipeline.afterRegion_arr (dat (V3 m) d) (V3 m d) launch1.win.arr_inj w

/-- From ids below 100000 the program ends with its three results as the region left them, its arguments as launched and every counter at zero. -/
theorem run_ends [∀ e, Nonempty (Elt F e)] (hok : IdsOK (ids m)) :
    θ_run (defs (F := F)) (threads (F := F)) ⟨m, fun _ => 0, ρ⟩ fun r => (∀ c : Dev nD,
      r.2.mem ((c.tc : Thread nD τ).loc main_v16_0) = (dat (V3 m) c).arrAt 12 cfg1.N
      ∧ r.2.mem ((c.tc : Thread nD τ).loc main_v16_1) = (dat (V3 m) c).arrAt 13 cfg1.N
      ∧ r.2.mem ((c.tc : Thread nD τ).loc main_v16_2) = (dat (V3 m) c).arrAt 14 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0 :=
  (θ_run defs _ _).mono (fun r h => by
    have arg (c : Dev nD) (b : Ref sig .tc) (hs : b.isScoped = false) (h2 : b ∉ midRefs) (h0 : b ∉ [main_v0]) (h1 : b ≠ main_v1)
        (ho : ∀ w, Pipeline.arrRef spec1 w = b → (cfg1.win w).isOut = false) :
        r.2.mem ((c.tc : Thread nD τ).loc b) = m ((c.tc : Thread nD τ).loc b) :=
      (h.1 c b hs).trans (V4_launched m c b h2 h0 h1 ho)
    refine ⟨fun c => ⟨(h.1 c _ (by decide)).trans (V4_arr m c 12), (h.1 c _ (by decide)).trans (V4_arr m c 13), (h.1 c _ (by decide)).trans (V4_arr m c 14), ?_⟩, h.2⟩
    refine ⟨?_, ?_, ?_, ?_, ?_, ?_, ?_, ?_, ?_, ?_⟩ <;> exact arg c _ (by decide) (by decide) (by decide) (by decide) (by decide))
    (run_main m ρ hok)

/-- The precondition's one flag, set, bounds every id. -/
theorem ids_lt {F : FTy → Type} [FloatOps F] (a0 : FVec F Cert.Pre_in_range.S16384x102 .f32) (a1 : FVec F Cert.Pre_in_range.S16384x23 .f32)
    (a2 : IVec Cert.Pre_in_range.S16384 32) (a3 : FVec F Cert.Pre_in_range.S100000x64 .f32) (a4 : FVec F Cert.Pre_in_range.S64x64 .f32)
    (a5 : FVec F Cert.Pre_in_range.S64 .f32) (a6 : FVec F Cert.Pre_in_range.S64x189 .f32) (a7 : FVec F Cert.Pre_in_range.S64 .f32)
    (a8 : FVec F Cert.Pre_in_range.S2x64 .f32) (a9 : FVec F Cert.Pre_in_range.S2 .f32)
    (h : Cert.Pre_in_range.fn a0 a1 a2 a3 a4 a5 a6 a7 a8 a9 = fun _ => 1) (j : Cert.Pre_in_range.S16384.Idx) : (a2 j).toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  haveI : Subsingleton Cert.Pre_in_range.S_.Idx := ⟨fun a b => funext fun x => x.elim0⟩
  have e := Host.reduce_andi_all _ _ _ _ (fun x => x.elim0) (congrFun h fun x => x.elim0) j
  simp only [andi, cmpi, broadcastInDim, constantI, IntOp.cmpi, andi_ofBool, ofBool_eq_one, Bool.and_eq_true, BitVec.sle_eq_decide,
    BitVec.slt_eq_decide, decide_eq_true_eq, BitVec.toInt_eq_toNat_cond, BitVec.toNat_ofNat, Nat.reducePow, Nat.reduceMod] at e
  omega

end Cert.Proof.Steps

end
-- ==== Proof.Steps.Same.lean ====
/-
  The kernel and its idealisation are printed from one module with no rewrite: their body tables are one table, kernel by kernel.
-/
module

public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

/-- The SparseCore kernel's text is the same in both. -/
theorem gather_eq : Cert.Kernel.cc0_gather_kernel (F := F) = Cert.KernelIdeal.cc0_gather_kernel (F := F) := rfl

/-- The dense kernel's text is the same in both. -/
theorem mlp_eq : Cert.Kernel.cc1__mlp_body (F := F) = Cert.KernelIdeal.cc1__mlp_body (F := F) := rfl

/-- A vector subcore's two labels. -/
theorem vector_gather (c : Fin Cert.Kernel.τ.nSC) (s a) :
    Cert.Kernel.defs₀ (F := F) (.scVector c s) 0 a = Cert.KernelIdeal.defs₀ (F := F) (.scVector c s) 0 a := by
  unfold Cert.Kernel.defs₀ Cert.KernelIdeal.defs₀
  dsimp only
  rw [gather_eq]; rfl
theorem vector_mlp (c : Fin Cert.Kernel.τ.nSC) (s a) :
    Cert.Kernel.defs₀ (F := F) (.scVector c s) 1 a = Cert.KernelIdeal.defs₀ (F := F) (.scVector c s) 1 a := by
  unfold Cert.Kernel.defs₀ Cert.KernelIdeal.defs₀
  rfl

/-- A scalar subcore runs neither kernel. -/
theorem scalar (c : Fin Cert.Kernel.τ.nSC) (ℓ a) :
    Cert.Kernel.defs₀ (F := F) (.scScalar c) ℓ a = Cert.KernelIdeal.defs₀ (F := F) (.scScalar c) ℓ a := by
  unfold Cert.Kernel.defs₀ Cert.KernelIdeal.defs₀
  rfl

/-- The TensorCore's two labels. -/
theorem tc_gather (a) : Cert.Kernel.defs₀ (F := F) .tc 0 a = Cert.KernelIdeal.defs₀ (F := F) .tc 0 a := by
  unfold Cert.Kernel.defs₀ Cert.KernelIdeal.defs₀
  rfl
theorem tc_mlp (a) : Cert.Kernel.defs₀ (F := F) .tc 1 a = Cert.KernelIdeal.defs₀ (F := F) .tc 1 a := by
  obtain ⟨t, s⟩ := a
  unfold Cert.Kernel.defs₀ Cert.KernelIdeal.defs₀
  dsimp only
  rw [mlp_eq]; rfl

/-- The kernels' body tables agree. -/
theorem defs₀_eq : Cert.Kernel.defs₀ (F := F) = Cert.KernelIdeal.defs₀ (F := F) := by
  funext p ℓ a
  cases p with
  | tc => revert a; exact Fin.cases tc_gather (fun i => by obtain rfl : i = 0 := Subsingleton.elim _ _; exact tc_mlp) ℓ
  | scVector c s => revert a; exact Fin.cases (vector_gather c s) (fun i => by obtain rfl : i = 0 := Subsingleton.elim _ _; exact vector_mlp c s) ℓ
  | scScalar c => exact scalar c ℓ a

/-- So do the whole programs'. -/
theorem defs_eq : Cert.Kernel.defs (F := F) = Cert.KernelIdeal.defs (F := F) := by
  show SparseCore.Cfg.defs Cert.KernelIdeal.sc (Pipeline.defs Cert.KernelIdeal.pcfgs Cert.Kernel.defs₀) = _
  rw [defs₀_eq]; rfl

end Cert.Proof.Same

end
-- ==== Proof.Value.Terms.lean ====
/-
  The three results as functions of the ten arguments, one entry at a time: the row an id names, the leaky cut, the embedding's features, the two class scores
  and the first block's side-by-side features. Both programs are shown to compute these.
-/
module

public import Idealize.ShloMosaic.Lib.Pointwise

@[expose] public section

noncomputable section

namespace Cert.Proof.Value

open Idealize.ShloMosaic

/-- A block of `a` rows of `b` numbers. -/
abbrev Mat (a b : Nat) := FVec Ideal ⟨2, ![a, b]⟩ .f32

/-- A list of `a` numbers. -/
abbrev Lst (a : Nat) := FVec Ideal ⟨1, ![a]⟩ .f32

/-- The 16384 ids. -/
abbrev Ids := IVec ⟨1, ![16384]⟩ 32

/-- The table's row an id names. -/
def rowOf (w : BitVec 32) : Fin 100000 := ⟨w.toNat % 100000, Nat.mod_lt _ (by decide)⟩

/-- An id in range names the row of its own number. -/
theorem rowOf_val {w : BitVec 32} (h : w.toNat < 100000) : (rowOf w).val = w.toNat := Nat.mod_eq_of_lt h

/-- The number itself from zero up, a hundredth of it below. -/
def leaky (x : Ideal .f32) : Ideal .f32 :=
  Scalar.select (Scalar.cmpf .oge x (Scalar.ofBits .f32 0x00000000#32)) x (Scalar.mulf (Scalar.ofBits .f32 0x3C23D70A#32) x)

/-- Feature `j` of row `i`'s embedding: the table's row that the id names, projected. -/
def feature (ids : Ids) (table : Mat 100000 64) (w : Mat 64 64) (b : Lst 64) (i : Fin 16384) (j : Fin 64) : EReal :=
  leaky ((∑ k : Fin 64, table (ix2 (rowOf (ids (ix1 i))) k) * w (ix2 j k)) + b (ix1 j))

/-- Hidden number `j` of row `i`: the two feature blocks and the embedding, through their parts of one 189-wide projection. -/
def hidden (fc : Mat 16384 102) (fl : Mat 16384 23) (ids : Ids) (table : Mat 100000 64) (w : Mat 64 64) (b : Lst 64) (ws : Mat 64 189) (bs : Lst 64)
    (i : Fin 16384) (j : Fin 64) : EReal :=
  leaky ((∑ k : Fin 102, fc (ix2 i k) * ws (ix2 j ⟨k.val, by omega⟩))
    + (∑ k : Fin 23, fl (ix2 i k) * ws (ix2 j ⟨102 + k.val, by omega⟩))
    + (∑ k : Fin 64, feature ids table w b i k * ws (ix2 j ⟨125 + k.val, by omega⟩)) + bs (ix1 j))

/-- Class score `j` of row `i`. -/
def score (fc : Mat 16384 102) (fl : Mat 16384 23) (ids : Ids) (table : Mat 100000 64) (w : Mat 64 64) (b : Lst 64) (ws : Mat 64 189) (bs : Lst 64)
    (wc : Mat 2 64) (bc : Lst 2) (i : Fin 16384) (j : Fin 2) : EReal :=
  (∑ k : Fin 64, hidden fc fl ids table w b ws bs i k * wc (ix2 j k)) + bc (ix1 j)

/-- Entry `j` of row `i` of the two feature blocks side by side. -/
def wide (fc : Mat 16384 102) (fl : Mat 16384 23) (i : Fin 16384) (j : Fin 125) : EReal :=
  if h : j.val < 102 then fc (ix2 i ⟨j.val, h⟩) else fl (ix2 i ⟨j.val - 102, by omega⟩)

end Cert.Proof.Value

end
-- ==== Proof.Value.Entries.lean ====
/-
  What the dense region finds in its twelve input arrays, one entry at a time, over the program's arguments.
-/
module

public import proofs.«01_k».proof.Proof.Steps.Ends
public import proofs.«01_k».proof.Proof.Value.Terms
public import Idealize.ShloMosaic.Lib.StableHlo.ReadAt

@[expose] public section

noncomputable section

namespace Cert.Proof.Value

open Cert.KernelIdeal Cert.KernelIdeal.Gen Cert.Proof.Steps
open Idealize.ShloMosaic Idealize.ShloMosaic.TcCoe

variable (m : (ℓ : Loc nD τ sig) → Buf (Elt Ideal) ℓ) (d : Dev nD)

/-- An argument, as launched. -/
abbrev arg (r : Ref sig .tc) : Buf (Elt Ideal) ((d.tc : Thread nD τ).loc r) := m ((d.tc : Thread nD τ).loc r)

/-- A feature block goes into the dense region as launched. -/
theorem passed (r : Ref sig .tc) (h2 : r ∉ midRefs) (h0 : r ∉ [main_v0]) (h1 : r ≠ main_v1) : V3 m d (Proc.devRef .tc r) = arg m d r :=
  (V3_unwritten m d r h2).trans (V2_launched m d r h0 h1)

/-- The upper half of the stacked projection is the transposed weights. -/
theorem stacked_low (k j : Fin 64) : V3 m d (Proc.devRef .tc main_v4) (ix2 (⟨k.val, by omega⟩ : Fin 128) j) = arg m d main_arg4 (ix2 j k) := by
  after_reads_at
  exact congrFun (V2_launched m d main_arg4 (by decide) (by decide)) _

/-- Its lower half repeats the upper. -/
theorem stacked_high (k j : Fin 64) : V3 m d (Proc.devRef .tc main_v4) (ix2 (⟨64 + k.val, by omega⟩ : Fin 128) j) = arg m d main_arg4 (ix2 j k) := by
  after_reads_at
  exact congrFun (V2_launched m d main_arg4 (by decide) (by decide)) _

/-- The shared projection's first 102 columns, transposed. -/
theorem cut_low (k : Fin 102) (j : Fin 64) : V3 m d (Proc.devRef .tc main_v6) (ix2 k j) = arg m d main_arg6 (ix2 j (⟨k.val, by omega⟩ : Fin 189)) := by
  after_reads_at
  exact congrFun (V2_launched m d main_arg6 (by decide) (by decide)) _

/-- Its next 23. -/
theorem cut_mid (k : Fin 23) (j : Fin 64) : V3 m d (Proc.devRef .tc main_v8) (ix2 k j) = arg m d main_arg6 (ix2 j (⟨102 + k.val, by omega⟩ : Fin 189)) := by
  after_reads_at
  exact congrFun (V2_launched m d main_arg6 (by decide) (by decide)) _

/-- Its last 64. -/
theorem cut_high (k : Fin 64) (j : Fin 64) : V3 m d (Proc.devRef .tc main_v10) (ix2 k j) = arg m d main_arg6 (ix2 j (⟨125 + k.val, by omega⟩ : Fin 189)) := by
  after_reads_at
  exact congrFun (V2_launched m d main_arg6 (by decide) (by decide)) _

/-- The class projection, transposed. -/
theorem cls (k : Fin 64) (j : Fin 2) : V3 m d (Proc.devRef .tc main_v11) (ix2 k j) = arg m d main_arg8 (ix2 j k) := by
  after_reads_at
  exact congrFun (V2_launched m d main_arg8 (by decide) (by decide)) _

/-- The ids, as a column. -/
theorem ids_column (r : Fin 16384) : V3 m d (Proc.devRef .tc main_v12) (ix2 r (0 : Fin 1)) = arg m d main_arg2 (ix1 r) := by
  after_reads_at
  exact congrFun (V2_launched m d main_arg2 (by decide) (by decide)) _

/-- The embedding's bias, as a row. -/
theorem deep_bias (j : Fin 64) : V3 m d (Proc.devRef .tc main_v13) (ix2 (0 : Fin 1) j) = arg m d main_arg5 (ix1 j) := by
  after_reads_at
  exact congrFun (V2_launched m d main_arg5 (by decide) (by decide)) _

/-- The shared projection's bias, as a row. -/
theorem shared_bias (j : Fin 64) : V3 m d (Proc.devRef .tc main_v14) (ix2 (0 : Fin 1) j) = arg m d main_arg7 (ix1 j) := by
  after_reads_at
  exact congrFun (V2_launched m d main_arg7 (by decide) (by decide)) _

/-- The class projection's bias, as a row. -/
theorem cls_bias (j : Fin 2) : V3 m d (Proc.devRef .tc main_v15) (ix2 (0 : Fin 1) j) = arg m d main_arg9 (ix1 j) := by
  after_reads_at
  exact congrFun (V2_launched m d main_arg9 (by decide) (by decide)) _

/-- The folded table's entries are the table's, in the same order. -/
theorem folded (q : Fin 50000) (l : Fin 128) (i : Fin 100000) (k : Fin 64) (h : i.val * 64 + k.val = q.val * 128 + l.val) :
    V1 m d (Proc.devRef .tc main_v0) (ix2 q l) = arg m d main_arg3 (ix2 i k) := by
  after_reads_at
  show arg m d main_arg3 _ = _
  congr 2 <;> refine Fin.ext ?_
  · show q.val * 2 + l.val / 64 = i.val; omega
  · show l.val % 64 = k.val; omega

/-- The fetched row of an id in range: the half of its lanes that the id's parity names is the table's row. -/
theorem fetched (h : ∀ j, (arg m d main_arg2 j).toNat < 100000) (r : Fin 16384) (k : Fin 64) (l : Fin 128)
    (hl : l.val = 64 * ((arg m d main_arg2 (ix1 r)).toNat % 2) + k.val) :
    V3 m d (Proc.devRef .tc main_v1) (ix2 r l) = arg m d main_arg3 (ix2 (rowOf (arg m d main_arg2 (ix1 r))) k) := by
  have e1 : at1 r = ix1 r := funext fun a => by obtain rfl : a = 0 := Subsingleton.elim _ _; rfl
  have e2 (q : Fin 50000) (l : Fin 128) : at2 q l = ix2 q l := funext fun a => by match a with | ⟨0, _⟩ => rfl | ⟨1, _⟩ => rfl
  have ei : V1 m d (Proc.devRef .tc main_arg2) = arg m d main_arg2 := StableHlo.after_unwritten [main_v0] rfl (by decide) _
  have ep : V2 m d (Proc.devRef .tc main_v1) = pairs (ids m) (tab m) d := Function.update_self _ _ _
  rw [V3_unwritten m d main_v1 (by decide), ep]
  show V1 m d (Proc.devRef .tc main_v0) (at2 (rowAt (half (V1 m d (Proc.devRef .tc main_arg2) (at1 r)))) l) = _
  rw [e1, e2, ei]
  refine folded m d _ _ _ _ ?_
  have hr := h (ix1 r)
  rw [rowOf_val hr]
  show _ = min (half (arg m d main_arg2 (ix1 r))).toNat 49999 * 128 + l.val
  rw [half_toNat _ hr, hl]
  omega

end Cert.Proof.Value

end
-- ==== Proof.Value.Blocks.lean ====
/-
  One point of the dense region, entry by entry: its results over the twelve blocks it reads. The one argument of substance is `folded_sum`: the product over
  128 lanes, half of them weighted 1 and half 0 by the id's parity, is the product over the 64 lanes of the id's own row.
-/
module

public import proofs.«01_k».proof.Proof.Gen.KernelIdeal.Skeleton
public import proofs.«01_k».proof.Proof.Value.Terms

@[expose] public section

noncomputable section

namespace Cert.Proof.Value

open Cert.KernelIdeal Cert.KernelIdeal.Gen
open Idealize.ShloMosaic

/-- What a lane is multiplied by: below lane 64 one less the id's parity, from there on the parity. -/
def weight (w : BitVec 32) (l : Fin 128) : EReal :=
  Scalar.select (IntOp.cmpi .slt (BitVec.ofNat 32 l.val) 64#32)
    (1 - FloatOps.sitofp (F := Ideal) .f32 (IntOp.andi w 1#32)) (FloatOps.sitofp (F := Ideal) .f32 (IntOp.andi w 1#32))

/-- The parity as a number. -/
theorem parity (w : BitVec 32) : FloatOps.sitofp (F := Ideal) .f32 (IntOp.andi w 1#32) = (((w.toNat % 2 : ℕ) : ℝ) : EReal) := by
  have e : (IntOp.andi w 1#32).toInt = ((w.toNat % 2 : ℕ) : ℤ) := by
    have e' : (w &&& 1#32).toNat = w.toNat % 2 := by rw [BitVec.toNat_and]; exact Nat.and_one_is_mod _
    show (w &&& 1#32).toInt = _
    rw [BitVec.toInt_eq_toNat_cond, e']
    omega
  show (((IntOp.andi w 1#32).toInt : ℝ) : EReal) = _
  rw [e]; rfl

/-- The lane test. -/
theorem lane_test (l : Fin 128) : IntOp.cmpi .slt (BitVec.ofNat 32 l.val) 64#32 = BitVec.ofBool (decide (l.val < 64)) := by
  have hl := l.isLt
  simp only [IntOp.cmpi, BitVec.slt_eq_decide, BitVec.toInt_eq_toNat_cond, BitVec.toNat_ofNat, Nat.reducePow, Nat.reduceMod]
  congr 1
  exact decide_eq_decide.2 (by omega)

/-- A lane of the half the parity names is kept. -/
theorem weight_own (w : BitVec 32) (l : Fin 128) (h : l.val / 64 = w.toNat % 2) : weight w l = 1 := by
  unfold weight
  rw [lane_test, parity, ← h]
  have hl := l.isLt
  by_cases c : l.val < 64
  · rw [show l.val / 64 = 0 by omega, decide_eq_true c]
    show 1 - (((0 : ℕ) : ℝ) : EReal) = 1
    norm_num
  · rw [show l.val / 64 = 1 by omega, decide_eq_false c]
    show (((1 : ℕ) : ℝ) : EReal) = 1
    norm_num

/-- A lane of the other half is dropped. -/
theorem weight_other (w : BitVec 32) (l : Fin 128) (h : l.val / 64 ≠ w.toNat % 2) : weight w l = 0 := by
  unfold weight
  rw [lane_test, parity]
  have hl := l.isLt
  by_cases c : l.val < 64
  · rw [show w.toNat % 2 = 1 by omega, decide_eq_true c]
    show 1 - (((1 : ℕ) : ℝ) : EReal) = 0
    norm_num
    exact EReal.sub_self (by decide) (by decide)
  · rw [show w.toNat % 2 = 0 by omega, decide_eq_false c]
    show (((0 : ℕ) : ℝ) : EReal) = 0
    norm_num

/-- The weighted product over the pair of rows is the product over the id's own row, the projection standing twice. -/
theorem folded_sum (w : BitVec 32) (f g : Fin 128 → EReal) (e v : Fin 64 → EReal)
    (hf : ∀ (k : Fin 64) (l : Fin 128), l.val = 64 * (w.toNat % 2) + k.val → f l = e k)
    (hg : ∀ k : Fin 64, g ⟨k.val, by omega⟩ = v k) (hg' : ∀ k : Fin 64, g ⟨64 + k.val, by omega⟩ = v k) :
    ∑ l, f l * weight w l * g l = ∑ k, e k * v k := by
  rw [Fin.sum_univ_two_halves 64 64 rfl]
  rcases Nat.mod_two_eq_zero_or_one w.toNat with p | p
  · rw [Finset.sum_eq_zero (f := fun k : Fin 64 => f ⟨64 + k.val, _⟩ * _ * _) fun k _ => ?_, add_zero]
    · refine Finset.sum_congr rfl fun k _ => ?_
      rw [weight_own _ _ (by simp only; omega), mul_one, hg, hf k _ (by simp only; omega)]
    · rw [weight_other _ _ (by simp only; omega), mul_zero, zero_mul]
  · rw [Finset.sum_eq_zero (f := fun k : Fin 64 => f ⟨k.val, _⟩ * _ * _) fun k _ => ?_, zero_add]
    · refine Finset.sum_congr rfl fun k _ => ?_
      rw [weight_own _ _ (by simp only; omega), mul_one, hg', hf k _ (by simp only; omega)]
    · rw [weight_other _ _ (by simp only; omega), mul_zero, zero_mul]

/-- The embedding's features of a block. -/
theorem feature_block (x3 : Vec Ideal S2048x128 .f32) (x4 : Vec Ideal S2048x1 .i32) (x5 : Vec Ideal S128x64 .f32) (x6 : Vec Ideal S1x64 .f32) (r : Fin 2048) (j : Fin 64) :
    k1_pay3 x3 x4 x5 x6 (ix2 r j) = leaky ((∑ l : Fin 128, x3 (ix2 r l) * weight (x4 (ix2 r 0)) l * x5 (ix2 l j)) + x6 (ix2 0 j)) := by
  pointwise [k1_pay3, leaky]
  rfl

/-- The class scores of a block, over the features `e`. -/
theorem score_block (x1 : Vec Ideal S2048x102 .f32) (x2 : Vec Ideal S2048x23 .f32) (e : FVec Ideal S2048x64 .f32) (x7 : Vec Ideal S102x64 .f32) (x8 : Vec Ideal S23x64 .f32)
    (x9 : Vec Ideal S64x64 .f32) (x10 : Vec Ideal S1x64 .f32) (x11 : Vec Ideal S64x2 .f32) (x12 : Vec Ideal S1x2 .f32) (r : Fin 2048) (j : Fin 2) :
    k1_pay1 x2 e (k1_pay4 x1 x7) x8 x9 x10 x11 x12 (ix2 r j)
      = (∑ k : Fin 64, leaky ((∑ l : Fin 102, x1 (ix2 r l) * x7 (ix2 l k)) + (∑ l : Fin 23, x2 (ix2 r l) * x8 (ix2 l k)) + (∑ l : Fin 64, e (ix2 r l) * x9 (ix2 l k)) + x10 (ix2 0 k))
          * x11 (ix2 k j)) + x12 (ix2 0 j) := by
  pointwise [k1_pay1, k1_pay4, leaky]

/-- The two feature blocks of a block side by side. -/
theorem wide_block (x1 : Vec Ideal S2048x102 .f32) (x2 : Vec Ideal S2048x23 .f32) (r : Fin 2048) (j : Fin 125) :
    k1_pay2 x1 x2 (ix2 r j) = if h : j.val < 102 then x1 (ix2 r ⟨j.val, h⟩) else x2 (ix2 r ⟨j.val - 102, by omega⟩) := by
  pointwise [k1_pay2]

end Cert.Proof.Value

end
-- ==== Proof.Value.Kernel.lean ====
/-
  The program's three results at an entry: the terms of Terms.lean.
-/
module

public import proofs.«01_k».proof.Proof.Value.Entries
public import proofs.«01_k».proof.Proof.Value.Blocks
public import Idealize.ShloMosaic.Lib.Pipeline.ValueKit

@[expose] public section

noncomputable section

namespace Cert.Proof.Value

open Cert.KernelIdeal Cert.KernelIdeal.Gen Cert.Proof.Steps
open Idealize.ShloMosaic Idealize.ShloMosaic.TcCoe

variable (m : (ℓ : Loc nD τ sig) → Buf (Elt Ideal) ℓ) (d : Dev nD)

/-- Point `t` has rows `2048 t` and on. -/
theorem index_rows : ∀ t : Fin cfg1.N, win1_0.index t = ![t.val, 0] ∧ win1_1.index t = ![t.val, 0] ∧ win1_2.index t = ![t.val, 0] ∧ win1_3.index t = ![t.val, 0]
    ∧ win1_12.index t = ![t.val, 0] ∧ win1_13.index t = ![t.val, 0] ∧ win1_14.index t = ![t.val, 0] := by decide +kernel

/-- Every point has the whole of each weight and bias. -/
theorem index_whole : ∀ t : Fin cfg1.N, win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![0, 0] := by decide +kernel

/-- Row `r` of point `t`'s blocks. -/
def rowIn (t : Fin cfg1.N) (r : Fin 2048) : Fin 16384 := ⟨t.val * 2048 + r.val, by have := t.isLt; have h : cfg1.N = 8 := rfl; omega⟩

/-- Row `r` of point `t`'s first feature block. -/
theorem block_fc (t : Fin cfg1.N) (r : Fin 2048) (k : Fin 102) : blkOf (V3 m) d 0 t (ix2 r k) = arg m d main_arg0 (ix2 (rowIn t r) k) := by
  refine (congrArg (V3 m d (Proc.devRef .tc main_arg0)) (show _ = ix2 (rowIn t r) k by blk_ext [rowIn, index_rows t])).trans ?_
  exact congrFun (passed m d main_arg0 (by decide) (by decide) (by decide)) _

/-- Row `r` of its second. -/
theorem block_fl (t : Fin cfg1.N) (r : Fin 2048) (k : Fin 23) : blkOf (V3 m) d 1 t (ix2 r k) = arg m d main_arg1 (ix2 (rowIn t r) k) := by
  refine (congrArg (V3 m d (Proc.devRef .tc main_arg1)) (show _ = ix2 (rowIn t r) k by blk_ext [rowIn, index_rows t])).trans ?_
  exact congrFun (passed m d main_arg1 (by decide) (by decide) (by decide)) _

/-- The half of a fetched row that its id's parity names. -/
theorem block_pair (h : ∀ j, (arg m d main_arg2 j).toNat < 100000) (t : Fin cfg1.N) (r : Fin 2048) (k : Fin 64) (l : Fin 128)
    (hl : l.val = 64 * ((arg m d main_arg2 (ix1 (rowIn t r))).toNat % 2) + k.val) :
    blkOf (V3 m) d 2 t (ix2 r l) = arg m d main_arg3 (ix2 (rowOf (arg m d main_arg2 (ix1 (rowIn t r)))) k) := by
  refine (congrArg (V3 m d (Proc.devRef .tc main_v1)) (show _ = ix2 (rowIn t r) l by blk_ext [rowIn, index_rows t])).trans ?_
  exact fetched m d h _ k l hl

/-- An id of the block. -/
theorem block_id (t : Fin cfg1.N) (r : Fin 2048) : blkOf (V3 m) d 3 t (ix2 r (0 : Fin 1)) = arg m d main_arg2 (ix1 (rowIn t r)) := by
  refine (congrArg (V3 m d (Proc.devRef .tc main_v12)) (show _ = ix2 (rowIn t r) (0 : Fin 1) by blk_ext [rowIn, index_rows t])).trans ?_
  exact ids_column m d _

/-- The embedding's projection, upper half. -/
theorem block_deep_low (t : Fin cfg1.N) (k j : Fin 64) : blkOf (V3 m) d 4 t (ix2 (⟨k.val, by omega⟩ : Fin 128) j) = arg m d main_arg4 (ix2 j k) := by
  refine (congrArg (V3 m d (Proc.devRef .tc main_v4)) (show _ = ix2 (⟨k.val, by omega⟩ : Fin 128) j by blk_ext [index_whole t])).trans ?_
  exact stacked_low m d k j

/-- The same, lower half. -/
theorem block_deep_high (t : Fin cfg1.N) (k j : Fin 64) : blkOf (V3 m) d 4 t (ix2 (⟨64 + k.val, by omega⟩ : Fin 128) j) = arg m d main_arg4 (ix2 j k) := by
  refine (congrArg (V3 m d (Proc.devRef .tc main_v4)) (show _ = ix2 (⟨64 + k.val, by omega⟩ : Fin 128) j by blk_ext [index_whole t])).trans ?_
  exact stacked_high m d k j

/-- Its bias. -/
theorem block_deep_bias (t : Fin cfg1.N) (j : Fin 64) : blkOf (V3 m) d 5 t (ix2 (0 : Fin 1) j) = arg m d main_arg5 (ix1 j) := by
  refine (congrArg (V3 m d (Proc.devRef .tc main_v13)) (show _ = ix2 (0 : Fin 1) j by blk_ext [index_whole t])).trans ?_
  exact deep_bias m d j

/-- The shared projection, first part. -/
theorem block_shared_low (t : Fin cfg1.N) (k : Fin 102) (j : Fin 64) : blkOf (V3 m) d 6 t (ix2 k j) = arg m d main_arg6 (ix2 j (⟨k.val, by omega⟩ : Fin 189)) := by
  refine (congrArg (V3 m d (Proc.devRef .tc main_v6)) (show _ = ix2 k j by blk_ext [index_whole t])).trans ?_
  exact cut_low m d k j

/-- Second part. -/
theorem block_shared_mid (t : Fin cfg1.N) (k : Fin 23) (j : Fin 64) : blkOf (V3 m) d 7 t (ix2 k j) = arg m d main_arg6 (ix2 j (⟨102 + k.val, by omega⟩ : Fin 189)) := by
  refine (congrArg (V3 m d (Proc.devRef .tc main_v8)) (show _ = ix2 k j by blk_ext [index_whole t])).trans ?_
  exact cut_mid m d k j

/-- Third part. -/
theorem block_shared_high (t : Fin cfg1.N) (k j : Fin 64) : blkOf (V3 m) d 8 t (ix2 k j) = arg m d main_arg6 (ix2 j (⟨125 + k.val, by omega⟩ : Fin 189)) := by
  refine (congrArg (V3 m d (Proc.devRef .tc main_v10)) (show _ = ix2 k j by blk_ext [index_whole t])).trans ?_
  exact cut_high m d k j

/-- Its bias. -/
theorem block_shared_bias (t : Fin cfg1.N) (j : Fin 64) : blkOf (V3 m) d 9 t (ix2 (0 : Fin 1) j) = arg m d main_arg7 (ix1 j) := by
  refine (congrArg (V3 m d (Proc.devRef .tc main_v14)) (show _ = ix2 (0 : Fin 1) j by blk_ext [index_whole t])).trans ?_
  exact shared_bias m d j

/-- The class projection. -/
theorem block_cls (t : Fin cfg1.N) (k : Fin 64) (j : Fin 2) : blkOf (V3 m) d 10 t (ix2 k j) = arg m d main_arg8 (ix2 j k) := by
  refine (congrArg (V3 m d (Proc.devRef .tc main_v11)) (show _ = ix2 k j by blk_ext [index_whole t])).trans ?_
  exact cls m d k j

/-- Its bias. -/
theorem block_cls_bias (t : Fin cfg1.N) (j : Fin 2) : blkOf (V3 m) d 11 t (ix2 (0 : Fin 1) j) = arg m d main_arg9 (ix1 j) := by
  refine (congrArg (V3 m d (Proc.devRef .tc main_v15)) (show _ = ix2 (0 : Fin 1) j by blk_ext [index_whole t])).trans ?_
  exact cls_bias m d j

/-- The features one point computes. -/
theorem point_feature (h : ∀ j, (arg m d main_arg2 j).toNat < 100000) (t : Fin cfg1.N) (r : Fin 2048) (j : Fin 64) :
    efBlk (blkOf (V3 m) d 2 t) (blkOf (V3 m) d 3 t) (blkOf (V3 m) d 4 t) (blkOf (V3 m) d 5 t) (ix2 r j)
      = feature (arg m d main_arg2) (arg m d main_arg3) (arg m d main_arg4) (arg m d main_arg5) (rowIn t r) j := by
  rw [efBlk, feature_block, block_id, block_deep_bias]
  unfold feature
  congr 2
  exact folded_sum _ _ _ _ _ (fun k l hl => block_pair m d h t r k l hl) (fun k => block_deep_low m d t k j) (fun k => block_deep_high m d t k j)

/-- The scores one point computes. -/
theorem point_score (h : ∀ j, (arg m d main_arg2 j).toNat < 100000) (t : Fin cfg1.N) (r : Fin 2048) (j : Fin 2) :
    outBlk (blkOf (V3 m) d 0 t) (blkOf (V3 m) d 1 t) (blkOf (V3 m) d 2 t) (blkOf (V3 m) d 3 t) (blkOf (V3 m) d 4 t) (blkOf (V3 m) d 5 t) (blkOf (V3 m) d 6 t) (blkOf (V3 m) d 7 t) (blkOf (V3 m) d 8 t) (blkOf (V3 m) d 9 t) (blkOf (V3 m) d 10 t) (blkOf (V3 m) d 11 t) (ix2 r j)
      = score (arg m d main_arg0) (arg m d main_arg1) (arg m d main_arg2) (arg m d main_arg3) (arg m d main_arg4) (arg m d main_arg5) (arg m d main_arg6) (arg m d main_arg7) (arg m d main_arg8) (arg m d main_arg9) (rowIn t r) j := by
  refine (score_block _ _ _ _ _ _ _ _ _ r j).trans ?_
  unfold score hidden
  refine congrArg₂ (· + ·) (Finset.sum_congr rfl fun k _ => congrArg₂ (· * ·) (congrArg leaky ?_) (block_cls m d t k j)) (block_cls_bias m d t j)
  refine congrArg₂ (· + ·) (congrArg₂ (· + ·) (congrArg₂ (· + ·) ?_ ?_) ?_) (block_shared_bias m d t k)
  · exact Finset.sum_congr rfl fun l _ => congrArg₂ (· * ·) (block_fc m d t r l) (block_shared_low m d t l k)
  · exact Finset.sum_congr rfl fun l _ => congrArg₂ (· * ·) (block_fl m d t r l) (block_shared_mid m d t l k)
  · exact Finset.sum_congr rfl fun l _ => congrArg₂ (· * ·) (point_feature m d h t r l) (block_shared_high m d t l k)

/-- The side-by-side features one point stores. -/
theorem point_wide (t : Fin cfg1.N) (r : Fin 2048) (j : Fin 125) :
    wideBlk (blkOf (V3 m) d 0 t) (blkOf (V3 m) d 1 t) (ix2 r j) = wide (arg m d main_arg0) (arg m d main_arg1) (rowIn t r) j := by
  refine (wide_block _ _ r j).trans ?_
  unfold wide
  split
  · exact block_fc m d t r _
  · exact block_fl m d t r _

/-- THE SCORES the program ends with. -/
theorem kernel_score (h : ∀ j, (arg m d main_arg2 j).toNat < 100000) : (dat (V3 m) d).arrAt 12 cfg1.N = fun x : S16384x2.Idx =>
    score (arg m d main_arg0) (arg m d main_arg1) (arg m d main_arg2) (arg m d main_arg3) (arg m d main_arg4) (arg m d main_arg5) (arg m d main_arg6) (arg m d main_arg7) (arg m d main_arg8) (arg m d main_arg9) (x 0) (x 1) := by
  refine (dat (V3 m) d).arrAt_eq_of_covers 12 _ (by decide +kernel) fun t _ y => ?_
  obtain ⟨r, k, rfl⟩ : ∃ (r : Fin 2048) (k : Fin 2), y = ix2 r k := ⟨y 0, y 1, eq_ix2 y⟩
  rw [show ((cfg1.win 12).blk t).view.emb (ix2 r k) = ix2 (rowIn t r) k by blk_ext [rowIn, index_rows t]]
  exact point_score m d h t r k

/-- THE SIDE-BY-SIDE FEATURES the program ends with. -/
theorem kernel_wide : (dat (V3 m) d).arrAt 13 cfg1.N = fun x : S16384x125.Idx => wide (arg m d main_arg0) (arg m d main_arg1) (x 0) (x 1) := by
  refine (dat (V3 m) d).arrAt_eq_of_covers 13 _ (by decide +kernel) fun t _ y => ?_
  obtain ⟨r, k, rfl⟩ : ∃ (r : Fin 2048) (k : Fin 125), y = ix2 r k := ⟨y 0, y 1, eq_ix2 y⟩
  rw [show ((cfg1.win 13).blk t).view.emb (ix2 r k) = ix2 (rowIn t r) k by blk_ext [rowIn, index_rows t]]
  exact point_wide m d t r k

set_option maxHeartbeats 2000000 in
/-- THE EMBEDDING'S FEATURES the program ends with. -/
theorem kernel_feature (h : ∀ j, (arg m d main_arg2 j).toNat < 100000) : (dat (V3 m) d).arrAt 14 cfg1.N = fun x : S16384x64.Idx =>
    feature (arg m d main_arg2) (arg m d main_arg3) (arg m d main_arg4) (arg m d main_arg5) (x 0) (x 1) := by
  refine (dat (V3 m) d).arrAt_eq_of_covers 14 _ (by decide +kernel) fun t _ y => ?_
  obtain ⟨r, k, rfl⟩ : ∃ (r : Fin 2048) (k : Fin 64), y = ix2 r k := ⟨y 0, y 1, eq_ix2 y⟩
  rw [show ((cfg1.win 14).blk t).view.emb (ix2 r k) = ix2 (rowIn t r) k by blk_ext [rowIn, index_rows t]]
  exact point_feature m d h t r k

end Cert.Proof.Value

end
-- ==== Proof.Value.Reference.lean ====
/-
  The reference's three results at an entry: the terms of Terms.lean.
-/
module

public import proofs.«01_k».proof.Proof.Gen.ReferenceIdeal.Run
public import proofs.«01_k».proof.Proof.Value.Terms
public import Idealize.ShloMosaic.Lib.ReduceAll
public import Idealize.ShloMosaic.Lib.Routing.Ops
public import Idealize.ShloMosaic.Lib.Tactic.CleanTypes

@[expose] public section

noncomputable section

namespace Cert.Proof.Value

open Cert.ReferenceIdeal Cert.ReferenceIdeal.Gen
open Idealize.ShloMosaic Idealize.ShloMosaic.TcCoe

/-- No id is negative, so none is shifted by the table's height. -/
theorem ids_kept (ids : IVec S16384 32) (h : ∀ j, (ids j).toNat < 100000) :
    select (cmpi .slt ids (broadcastInDim S16384 ![] bcast_S_S16384 (constantI S_ 32 0#32)))
      (addi ids (broadcastInDim S16384 ![] bcast_S_S16384 (constantI S_ 32 100000#32))) ids = ids := by
  funext j
  have hj := h j
  pointwise
  have e : IntOp.cmpi .slt (ids j) 0#32 = 0#1 := by
    simp only [IntOp.cmpi, BitVec.slt_eq_decide, BitVec.toInt_eq_toNat_cond, BitVec.toNat_ofNat, Nat.reducePow, Nat.zero_mod]
    rw [decide_eq_false (by omega)]; rfl
  rw [e]; rfl

/-- Every id is in range, so every row is taken. -/
theorem rows_taken (ids : IVec S16384 32) (h : ∀ j, (ids j).toNat < 100000) :
    Host.reduce IntOp.andi (andi (cmpi .sge (broadcastInDim S16384x1 ![0] bcast_S16384_S16384x1_0 ids) (broadcastInDim S16384x1 ![] bcast_S_S16384x1 (constantI S_ 32 0#32)))
      (cmpi .sle (broadcastInDim S16384x1 ![0] bcast_S16384_S16384x1_0 ids)
        (broadcastInDim S16384x1 ![0, 1] bcast_S1x1_S16384x1_0_1 (broadcastInDim S1x1 ![1] bcast_S1_S1x1_1 (constantI S1 32 99999#32)))))
      (constantI S_ 1 1#1) reducesTo_S16384x1_S16384_d1 h_S_ = fun _ => 1#1 := by
  funext j
  refine Host.reduce_andi_one _ _ _ _ _ rfl fun i => ?_
  have hj := h (ix1 (i 0))
  pointwise
  have e : IntOp.cmpi .sge (ids (ix1 (i 0))) 0#32 = 1#1 := by
    simp only [IntOp.cmpi, BitVec.sle_eq_decide, BitVec.toInt_eq_toNat_cond, BitVec.toNat_ofNat, Nat.reducePow, Nat.zero_mod]
    rw [decide_eq_true (by omega)]; rfl
  have e' : IntOp.cmpi .sle (ids (ix1 (i 0))) 99999#32 = 1#1 := by
    simp only [IntOp.cmpi, BitVec.sle_eq_decide, BitVec.toInt_eq_toNat_cond, BitVec.toNat_ofNat, Nat.reducePow, Nat.reduceMod]
    rw [decide_eq_true (by omega)]; rfl
  rw [e, e']; rfl

/-- The rows the reference looks up. -/
theorem taken (ids : IVec S16384 32) (h : ∀ j, (ids j).toNat < 100000) (table : FVec Ideal S100000x64 .f32) (i : Fin 16384) (k : Fin 64) :
    Host.gather gather_S100000x64_S16384x1_S16384x64_1_0_n_n_0_1_164 table (broadcastInDim S16384x1 ![0] bcast_S16384_S16384x1_0 ids) (ix2 i k)
      = table (ix2 (rowOf (ids (ix1 i))) k) := by
  refine Routing.gather_row _ rfl rfl rfl rfl rfl _ _ i k (rowOf (ids (ix1 i))) ?_ (by decide)
  pointwise
  refine BitVec.eq_of_toNat_eq ?_
  have hi := h (ix1 i)
  show (ids (ix1 i)).toNat = _
  rw [BitVec.toNat_ofNat, rowOf_val hi]
  omega

variable (m : (ℓ : Loc nD τ sig) → Buf (Elt Ideal) ℓ) (c : Dev nD)

/-- The embedding's features. -/
theorem ref_feature (h : ∀ j, ((m ((c.tc : Thread nD τ).loc main_arg2)) j).toNat < 100000) (i : Fin 16384) (j : Fin 64) :
    Cert.ReferenceIdeal.Value.res_out2 m c (ix2 i j)
      = feature (m ((c.tc : Thread nD τ).loc main_arg2)) (m ((c.tc : Thread nD τ).loc main_arg3)) (m ((c.tc : Thread nD τ).loc main_arg4)) (m ((c.tc : Thread nD τ).loc main_arg5)) i j := by
  unfold Cert.ReferenceIdeal.Value.res_out2 Cert.ReferenceIdeal.Value.res_main_v7
  clean_types
  rw [ids_kept _ h, rows_taken _ h]
  pointwise [feature, leaky]
  simp only [taken _ h]
  rfl

/-- The two feature blocks side by side. -/
theorem ref_wide (i : Fin 16384) (j : Fin 125) :
    concatenate S16384x125 1 [⟨S16384x102, (m ((c.tc : Thread nD τ).loc main_arg0))⟩, ⟨S16384x23, (m ((c.tc : Thread nD τ).loc main_arg1))⟩] concatenates_S16384x102_S16384x23_S16384x125_d1 (ix2 i j)
      = wide (m ((c.tc : Thread nD τ).loc main_arg0)) (m ((c.tc : Thread nD τ).loc main_arg1)) i j := by
  pointwise [wide]

/-- The class scores. -/
theorem ref_score (h : ∀ j, ((m ((c.tc : Thread nD τ).loc main_arg2)) j).toNat < 100000) (i : Fin 16384) (j : Fin 2) :
    Cert.ReferenceIdeal.Value.res_out0 m c (ix2 i j)
      = score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) i j := by
  unfold Cert.ReferenceIdeal.Value.res_out0 Cert.ReferenceIdeal.Value.res_main_v19
  clean_types
  rw [ids_kept _ h, rows_taken _ h]
  pointwise [score, hidden, feature, leaky]
  simp only [taken _ h]
  rfl

end Cert.Proof.Value

end
-- ==== Proof.lean ====
/-
  The proof of `Cert.Claim` (Defs.lean). The two programs have the same text, so the run of the kernel (Steps/Main.lean, Steps/Ends.lean), stated over any float
  values, is both kernel frames. The reference's frame is its composed run (Gen/ReferenceIdeal/Run.lean). The value claim joins the two programs' results, each
  shown to be the terms of Value/Terms.lean (Value/Kernel.lean, Value/Reference.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Steps.Ends
public import proofs.«01_k».proof.Proof.Steps.Same
public import proofs.«01_k».proof.Proof.Value.Kernel
public import proofs.«01_k».proof.Proof.Value.Reference
public import Idealize.ShloMosaic.Adequacy
public import Idealize.ShloMosaic.Init

@[expose] public section

noncomputable section

namespace Cert.Proof

open Idealize.ShloMosaic Idealize.SL.Sem

/-- The kernel as compiled ends, on bit patterns, with its arguments unchanged and every counter at zero. -/
theorem frame_kernel : Cert.quiescent_Kernel := by
  intro m ρ hpre
  rw [Same.defs_eq]
  exact (θ_run Cert.KernelIdeal.defs Cert.KernelIdeal.threads _).mono (fun _ h => ⟨fun c => (h.1 c).2.2.2, h.2⟩)
    (Steps.run_ends (F := Bits) m ρ fun d j => Steps.ids_lt _ _ _ _ _ _ _ _ _ _ (hpre d) j)

/-- The idealised kernel ends, on extended reals, with its arguments unchanged and every counter at zero. -/
theorem frame_ideal : Cert.quiescent_KernelIdeal := fun m ρ hpre =>
  (θ_run Cert.KernelIdeal.defs _ _).mono (fun _ h => ⟨fun c => (h.1 c).2.2.2, h.2⟩)
    (Steps.run_ends (F := Ideal) m ρ fun d j => Steps.ids_lt _ _ _ _ _ _ _ _ _ _ (hpre d) j)

/-- The reference ends with its arguments unchanged; it declares no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- From ids in range the idealised kernel and the reference end with the same three results, each entry the term of Value/Terms.lean. -/
theorem algebraic : Cert.algebraic_KernelIdeal_ReferenceIdeal := by
  intro m g m' g' hpre hagree
  have hid (c : Dev Cert.KernelIdeal.nD) (j) : (Value.arg m c Cert.KernelIdeal.main_arg2 j).toNat < 100000 :=
    Steps.ids_lt _ _ _ _ _ _ _ _ _ _ (hpre c) j
  refine ⟨fun c => (Steps.dat (Steps.V3 m) c).arrAt 12 Cert.KernelIdeal.cfg1.N, fun c => (Steps.dat (Steps.V3 m) c).arrAt 13 Cert.KernelIdeal.cfg1.N,
    fun c => (Steps.dat (Steps.V3 m) c).arrAt 14 Cert.KernelIdeal.cfg1.N,
    (θ_run Cert.KernelIdeal.defs _ _).mono (fun _ h => h.1) (Steps.run_ends (F := Ideal) m g hid), ?_⟩
  refine (θ_run Cert.ReferenceIdeal.defs _ _).mono (fun r h c => ?_) (Cert.ReferenceIdeal.Value.run (F := Ideal) m' g')
  obtain ⟨e0, e1, e2, e3, e4, e5, e6, e7, e8, e9⟩ := hagree c
  have hid' (j) : ((m' ((c.tc : Thread Cert.ReferenceIdeal.nD Cert.ReferenceIdeal.τ).loc Cert.ReferenceIdeal.main_arg2)) j).toNat < 100000 := by
    rw [e2]; exact hid c j
  refine ⟨(h c).1.trans ?_, (h c).2.1.trans ?_, (h c).2.2.1.trans ?_, (h c).2.2.2⟩
  · refine Eq.trans (funext fun x => ?_) (Value.kernel_score m c (hid c)).symm
    obtain ⟨i, j, rfl⟩ : ∃ (i : Fin 16384) (j : Fin 2), x = ix2 i j := ⟨x 0, x 1, eq_ix2 x⟩
    refine (Value.ref_score m' c hid' i j).trans ?_
    rw [e0, e1, e2, e3, e4, e5, e6, e7, e8, e9]
    rfl
  · refine Eq.trans (funext fun x => ?_) (Value.kernel_wide m c).symm
    obtain ⟨i, j, rfl⟩ : ∃ (i : Fin 16384) (j : Fin 125), x = ix2 i j := ⟨x 0, x 1, eq_ix2 x⟩
    refine (Value.ref_wide m' c i j).trans ?_
    rw [e0, e1]
    rfl
  · refine Eq.trans (funext fun x => ?_) (Value.kernel_feature m c (hid c)).symm
    obtain ⟨i, j, rfl⟩ : ∃ (i : Fin 16384) (j : Fin 64), x = ix2 i j := ⟨x 0, x 1, eq_ix2 x⟩
    refine (Value.ref_feature m' c hid' i j).trans ?_
    rw [e2, e3, e4, e5]
    rfl

/-- All the claims of Defs.lean, in its order. -/
theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, trivial, algebraic⟩

end Cert.Proof

end
